-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4x256x512 : Shape := ⟨3, ![4, 256, 512]⟩
abbrev S4 : Shape := ⟨1, ![4]⟩
abbrev S_ : Shape := ⟨0, ![]⟩
abbrev S256x256 : Shape := ⟨2, ![256, 256]⟩
abbrev S256x1024 : Shape := ⟨2, ![256, 1024]⟩
abbrev S256x512 : Shape := ⟨2, ![256, 512]⟩
abbrev S1x256x512 : Shape := ⟨3, ![1, 256, 512]⟩

abbrev nBuf : Space → Nat
  | .hbm => 5
  | .vmem => 7
  | .smem => 2
  | _ => 0

abbrev bufTy : (tb : Table) → Fin (tcTables nBuf tb) → BufTy
  | .hbm, ⟨0, _⟩ => ⟨S4096x256, .i8⟩
  | .hbm, ⟨1, _⟩ => ⟨S256x2048, .i8⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .i8⟩
  | .local _ .vmem, ⟨1, _⟩ => ⟨S256x2048, .i8⟩
  | .local _ .vmem, ⟨2, _⟩ => ⟨S256x2048, .f32⟩
  | .local _ .vmem, ⟨3, _⟩ => ⟨S4x256x512, .i32⟩
  | .local _ .vmem, ⟨4, _⟩ => ⟨S4x256x512, .i32⟩
  | .local _ .vmem, ⟨5, _⟩ => ⟨S4x256x512, .i32⟩
  | .local _ .vmem, ⟨6, _⟩ => ⟨S4x256x512, .i32⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 5 37 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c1_i32_10 : BitVec 32 := 1#32
  let v14 : BitVec 32 := Scalar.subi v13 c1_i32_10
  let v15 : BitVec 32 := Scalar.subi v14 c0_i32_11
  let c16_i32_12 : BitVec 32 := 16#32
  let v16 : BitVec 32 := Scalar.remsi v15 c16_i32_12
  let c256_i32 : BitVec 32 := 256#32
  let v17 : BitVec 32 := Scalar.muli v16 c256_i32
  let v18 : Index := Scalar.indexCast v17
  let c0 : Index := 0#32
  ![v18.toNat, 0]
def k0_off2 (d0 : Dev nD) (c0_i32_16 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15 : BitVec 32 := 1#32
  let v24 : BitVec 32 := Scalar.addi v2 c1_i32_15
  let v25 : BitVec 32 := Scalar.addi v24 c0_i32_16
  let c16_i32_17 : BitVec 32 := 16#32
  let v26 : BitVec 32 := Scalar.remsi v25 c16_i32_17
  let c256_i32_18 : BitVec 32 := 256#32
  let v27 : BitVec 32 := Scalar.muli v26 c256_i32_18
  let v28 : Index := Scalar.indexCast v27
  let c0_19 : Index := 0#32
  ![v28.toNat, 0]
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v38 : BitVec 32 := Scalar.muli v7 c1_i32_29
  let v39 : BitVec 32 := Scalar.addi c0_i32_30 v38
  v39.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_42 : BitVec 32 := 1#32
  let v52 : BitVec 32 := Scalar.muli v5 c1_i32_42
  let v53 : BitVec 32 := Scalar.addi c0_i32_43 v52
  v53.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_55 : BitVec 32 := 1#32
  let v66 : BitVec 32 := Scalar.muli v7 c1_i32_55
  let v67 : BitVec 32 := Scalar.addi c0_i32_56 v66
  v67.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_68 : BitVec 32 := 1#32
  let v80 : BitVec 32 := Scalar.muli v5 c1_i32_68
  let v81 : BitVec 32 := Scalar.addi c0_i32_69 v80
  v81.toNat
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_119 : BitVec 32 := 1#32
  let v132 : BitVec 32 := Scalar.muli v7 c1_i32_119
  let v133 : BitVec 32 := Scalar.addi c0_i32_120 v132
  v133.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_126 : BitVec 32 := 1#32
  let v142 : BitVec 32 := Scalar.muli v5 c1_i32_126
  let v143 : BitVec 32 := Scalar.addi c0_i32_127 v142
  v143.toNat
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_157 : BitVec 32 := 1#32
  let v165 : BitVec 32 := Scalar.muli v5 c1_i32_157
  let v166 : BitVec 32 := Scalar.addi c0_i32_158 v165
  v166.toNat
def k0_dev10 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_164 : BitVec 32 := 1#32
  let v175 : BitVec 32 := Scalar.muli v7 c1_i32_164
  let v176 : BitVec 32 := Scalar.addi c0_i32_165 v175
  v176.toNat
def k0_dev11 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_195 : BitVec 32 := 1#32
  let v198 : BitVec 32 := Scalar.muli v7 c1_i32_195
  let v199 : BitVec 32 := Scalar.addi c0_i32_196 v198
  v199.toNat
def k0_dev12 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_202 : BitVec 32 := 1#32
  let v208 : BitVec 32 := Scalar.muli v5 c1_i32_202
  let v209 : BitVec 32 := Scalar.addi c0_i32_203 v208
  v209.toNat
def k0_dev13 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_233 : BitVec 32 := 1#32
  let v231 : BitVec 32 := Scalar.muli v5 c1_i32_233
  let v232 : BitVec 32 := Scalar.addi c0_i32_234 v231
  v232.toNat
def k0_dev14 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_240 : BitVec 32 := 1#32
  let v241 : BitVec 32 := Scalar.muli v7 c1_i32_240
  let v242 : BitVec 32 := Scalar.addi c0_i32_241 v241
  v242.toNat
def k0_dev15 (d0 : Dev nD) : Nat :=
  let c0_i32_287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_286 : BitVec 32 := 1#32
  let v285 : BitVec 32 := Scalar.muli v7 c1_i32_286
  let v286 : BitVec 32 := Scalar.addi c0_i32_287 v285
  v286.toNat
def k0_dev16 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_293 : BitVec 32 := 1#32
  let v295 : BitVec 32 := Scalar.muli v5 c1_i32_293
  let v296 : BitVec 32 := Scalar.addi c0_i32_294 v295
  v296.toNat
def k0_dev17 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_324 : BitVec 32 := 1#32
  let v318 : BitVec 32 := Scalar.muli v5 c1_i32_324
  let v319 : BitVec 32 := Scalar.addi c0_i32_325 v318
  v319.toNat
def k0_dev18 (d0 : Dev nD) : Nat :=
  let c0_i32_332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_331 : BitVec 32 := 1#32
  let v328 : BitVec 32 := Scalar.muli v7 c1_i32_331
  let v329 : BitVec 32 := Scalar.addi c0_i32_332 v328
  v329.toNat
def k0_dev19 (d0 : Dev nD) : Nat :=
  let c0_i32_363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_362 : BitVec 32 := 1#32
  let v351 : BitVec 32 := Scalar.muli v7 c1_i32_362
  let v352 : BitVec 32 := Scalar.addi c0_i32_363 v351
  v352.toNat
def k0_dev20 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_369 : BitVec 32 := 1#32
  let v361 : BitVec 32 := Scalar.muli v5 c1_i32_369
  let v362 : BitVec 32 := Scalar.addi c0_i32_370 v361
  v362.toNat
def k0_dev21 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_400 : BitVec 32 := 1#32
  let v384 : BitVec 32 := Scalar.muli v5 c1_i32_400
  let v385 : BitVec 32 := Scalar.addi c0_i32_401 v384
  v385.toNat
def k0_dev22 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_407 : BitVec 32 := 1#32
  let v394 : BitVec 32 := Scalar.muli v7 c1_i32_407
  let v395 : BitVec 32 := Scalar.addi c0_i32_408 v394
  v395.toNat
def k0_dev23 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_456 : BitVec 32 := 1#32
  let v438 : BitVec 32 := Scalar.muli v7 c1_i32_456
  let v439 : BitVec 32 := Scalar.addi c0_i32_457 v438
  v439.toNat
def k0_dev24 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_463 : BitVec 32 := 1#32
  let v448 : BitVec 32 := Scalar.muli v5 c1_i32_463
  let v449 : BitVec 32 := Scalar.addi c0_i32_464 v448
  v449.toNat
def k0_dev25 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_496 : BitVec 32 := 1#32
  let v471 : BitVec 32 := Scalar.muli v5 c1_i32_496
  let v472 : BitVec 32 := Scalar.addi c0_i32_497 v471
  v472.toNat
def k0_dev26 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_503 : BitVec 32 := 1#32
  let v481 : BitVec 32 := Scalar.muli v7 c1_i32_503
  let v482 : BitVec 32 := Scalar.addi c0_i32_504 v481
  v482.toNat
def k0_dev27 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_536 : BitVec 32 := 1#32
  let v504 : BitVec 32 := Scalar.muli v7 c1_i32_536
  let v505 : BitVec 32 := Scalar.addi c0_i32_537 v504
  v505.toNat
def k0_dev28 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_543 : BitVec 32 := 1#32
  let v514 : BitVec 32 := Scalar.muli v5 c1_i32_543
  let v515 : BitVec 32 := Scalar.addi c0_i32_544 v514
  v515.toNat
def k0_dev29 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_576 : BitVec 32 := 1#32
  let v537 : BitVec 32 := Scalar.muli v5 c1_i32_576
  let v538 : BitVec 32 := Scalar.addi c0_i32_577 v537
  v538.toNat
def k0_dev30 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_583 : BitVec 32 := 1#32
  let v547 : BitVec 32 := Scalar.muli v7 c1_i32_583
  let v548 : BitVec 32 := Scalar.addi c0_i32_584 v547
  v548.toNat
def k0_dev31 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_632 : BitVec 32 := 1#32
  let v591 : BitVec 32 := Scalar.muli v7 c1_i32_632
  let v592 : BitVec 32 := Scalar.addi c0_i32_633 v591
  v592.toNat
def k0_dev32 (d0 : Dev nD) : Nat :=
  let c0_i32_640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_639 : BitVec 32 := 1#32
  let v601 : BitVec 32 := Scalar.muli v5 c1_i32_639
  let v602 : BitVec 32 := Scalar.addi c0_i32_640 v601
  v602.toNat
def k0_dev33 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_672 : BitVec 32 := 1#32
  let v624 : BitVec 32 := Scalar.muli v5 c1_i32_672
  let v625 : BitVec 32 := Scalar.addi c0_i32_673 v624
  v625.toNat
def k0_dev34 (d0 : Dev nD) : Nat :=
  let c0_i32_680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_679 : BitVec 32 := 1#32
  let v634 : BitVec 32 := Scalar.muli v7 c1_i32_679
  let v635 : BitVec 32 := Scalar.addi c0_i32_680 v634
  v635.toNat
def k0_dev35 (d0 : Dev nD) : Nat :=
  let c0_i32_713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_712 : BitVec 32 := 1#32
  let v657 : BitVec 32 := Scalar.muli v7 c1_i32_712
  let v658 : BitVec 32 := Scalar.addi c0_i32_713 v657
  v658.toNat
def k0_dev36 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_719 : BitVec 32 := 1#32
  let v667 : BitVec 32 := Scalar.muli v5 c1_i32_719
  let v668 : BitVec 32 := Scalar.addi c0_i32_720 v667
  v668.toNat
def k0_dev37 (d0 : Dev nD) : Nat :=
  let c0_i32_753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_752 : BitVec 32 := 1#32
  let v690 : BitVec 32 := Scalar.muli v5 c1_i32_752
  let v691 : BitVec 32 := Scalar.addi c0_i32_753 v690
  v691.toNat
def k0_dev38 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_759 : BitVec 32 := 1#32
  let v700 : BitVec 32 := Scalar.muli v7 c1_i32_759
  let v701 : BitVec 32 := Scalar.addi c0_i32_760 v700
  v701.toNat
def k0_dev39 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_808 : BitVec 32 := 1#32
  let v744 : BitVec 32 := Scalar.muli v7 c1_i32_808
  let v745 : BitVec 32 := Scalar.addi c0_i32_809 v744
  v745.toNat
def k0_dev40 (d0 : Dev nD) : Nat :=
  let c0_i32_816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_815 : BitVec 32 := 1#32
  let v754 : BitVec 32 := Scalar.muli v5 c1_i32_815
  let v755 : BitVec 32 := Scalar.addi c0_i32_816 v754
  v755.toNat
def k0_dev41 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_848 : BitVec 32 := 1#32
  let v777 : BitVec 32 := Scalar.muli v5 c1_i32_848
  let v778 : BitVec 32 := Scalar.addi c0_i32_849 v777
  v778.toNat
def k0_dev42 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_855 : BitVec 32 := 1#32
  let v787 : BitVec 32 := Scalar.muli v7 c1_i32_855
  let v788 : BitVec 32 := Scalar.addi c0_i32_856 v787
  v788.toNat
def k0_dev43 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_888 : BitVec 32 := 1#32
  let v810 : BitVec 32 := Scalar.muli v7 c1_i32_888
  let v811 : BitVec 32 := Scalar.addi c0_i32_889 v810
  v811.toNat
def k0_dev44 (d0 : Dev nD) : Nat :=
  let c0_i32_896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_895 : BitVec 32 := 1#32
  let v820 : BitVec 32 := Scalar.muli v5 c1_i32_895
  let v821 : BitVec 32 := Scalar.addi c0_i32_896 v820
  v821.toNat
def k0_dev45 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_928 : BitVec 32 := 1#32
  let v843 : BitVec 32 := Scalar.muli v5 c1_i32_928
  let v844 : BitVec 32 := Scalar.addi c0_i32_929 v843
  v844.toNat
def k0_dev46 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_935 : BitVec 32 := 1#32
  let v853 : BitVec 32 := Scalar.muli v7 c1_i32_935
  let v854 : BitVec 32 := Scalar.addi c0_i32_936 v853
  v854.toNat
def k0_dev47 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_984 : BitVec 32 := 1#32
  let v897 : BitVec 32 := Scalar.muli v7 c1_i32_984
  let v898 : BitVec 32 := Scalar.addi c0_i32_985 v897
  v898.toNat
def k0_dev48 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_991 : BitVec 32 := 1#32
  let v907 : BitVec 32 := Scalar.muli v5 c1_i32_991
  let v908 : BitVec 32 := Scalar.addi c0_i32_992 v907
  v908.toNat
def k0_dev49 (d0 : Dev nD) : Nat :=
  let c0_i32_1025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1024 : BitVec 32 := 1#32
  let v930 : BitVec 32 := Scalar.muli v5 c1_i32_1024
  let v931 : BitVec 32 := Scalar.addi c0_i32_1025 v930
  v931.toNat
def k0_dev50 (d0 : Dev nD) : Nat :=
  let c0_i32_1032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1031 : BitVec 32 := 1#32
  let v940 : BitVec 32 := Scalar.muli v7 c1_i32_1031
  let v941 : BitVec 32 := Scalar.addi c0_i32_1032 v940
  v941.toNat
def k0_dev51 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1064 : BitVec 32 := 1#32
  let v963 : BitVec 32 := Scalar.muli v7 c1_i32_1064
  let v964 : BitVec 32 := Scalar.addi c0_i32_1065 v963
  v964.toNat
def k0_dev52 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1071 : BitVec 32 := 1#32
  let v973 : BitVec 32 := Scalar.muli v5 c1_i32_1071
  let v974 : BitVec 32 := Scalar.addi c0_i32_1072 v973
  v974.toNat
def k0_dev53 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1104 : BitVec 32 := 1#32
  let v996 : BitVec 32 := Scalar.muli v5 c1_i32_1104
  let v997 : BitVec 32 := Scalar.addi c0_i32_1105 v996
  v997.toNat
def k0_dev54 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1111 : BitVec 32 := 1#32
  let v1006 : BitVec 32 := Scalar.muli v7 c1_i32_1111
  let v1007 : BitVec 32 := Scalar.addi c0_i32_1112 v1006
  v1007.toNat
def k0_dev55 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1160 : BitVec 32 := 1#32
  let v1050 : BitVec 32 := Scalar.muli v7 c1_i32_1160
  let v1051 : BitVec 32 := Scalar.addi c0_i32_1161 v1050
  v1051.toNat
def k0_dev56 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1167 : BitVec 32 := 1#32
  let v1060 : BitVec 32 := Scalar.muli v5 c1_i32_1167
  let v1061 : BitVec 32 := Scalar.addi c0_i32_1168 v1060
  v1061.toNat
def k0_dev57 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1200 : BitVec 32 := 1#32
  let v1083 : BitVec 32 := Scalar.muli v5 c1_i32_1200
  let v1084 : BitVec 32 := Scalar.addi c0_i32_1201 v1083
  v1084.toNat
def k0_dev58 (d0 : Dev nD) : Nat :=
  let c0_i32_1208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1207 : BitVec 32 := 1#32
  let v1093 : BitVec 32 := Scalar.muli v7 c1_i32_1207
  let v1094 : BitVec 32 := Scalar.addi c0_i32_1208 v1093
  v1094.toNat
def k0_dev59 (d0 : Dev nD) : Nat :=
  let c0_i32_1241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1240 : BitVec 32 := 1#32
  let v1116 : BitVec 32 := Scalar.muli v7 c1_i32_1240
  let v1117 : BitVec 32 := Scalar.addi c0_i32_1241 v1116
  v1117.toNat
def k0_dev60 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1247 : BitVec 32 := 1#32
  let v1126 : BitVec 32 := Scalar.muli v5 c1_i32_1247
  let v1127 : BitVec 32 := Scalar.addi c0_i32_1248 v1126
  v1127.toNat
def k0_dev61 (d0 : Dev nD) : Nat :=
  let c0_i32_1281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1280 : BitVec 32 := 1#32
  let v1149 : BitVec 32 := Scalar.muli v5 c1_i32_1280
  let v1150 : BitVec 32 := Scalar.addi c0_i32_1281 v1149
  v1150.toNat
def k0_dev62 (d0 : Dev nD) : Nat :=
  let c0_i32_1288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1287 : BitVec 32 := 1#32
  let v1159 : BitVec 32 := Scalar.muli v7 c1_i32_1287
  let v1160 : BitVec 32 := Scalar.addi c0_i32_1288 v1159
  v1160.toNat
def k0_dev63 (d0 : Dev nD) : Nat :=
  let c0_i32_1337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1336 : BitVec 32 := 1#32
  let v1203 : BitVec 32 := Scalar.muli v7 c1_i32_1336
  let v1204 : BitVec 32 := Scalar.addi c0_i32_1337 v1203
  v1204.toNat
def k0_dev64 (d0 : Dev nD) : Nat :=
  let c0_i32_1344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1343 : BitVec 32 := 1#32
  let v1213 : BitVec 32 := Scalar.muli v5 c1_i32_1343
  let v1214 : BitVec 32 := Scalar.addi c0_i32_1344 v1213
  v1214.toNat
def k0_dev65 (d0 : Dev nD) : Nat :=
  let c0_i32_1377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1376 : BitVec 32 := 1#32
  let v1236 : BitVec 32 := Scalar.muli v5 c1_i32_1376
  let v1237 : BitVec 32 := Scalar.addi c0_i32_1377 v1236
  v1237.toNat
def k0_dev66 (d0 : Dev nD) : Nat :=
  let c0_i32_1384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1383 : BitVec 32 := 1#32
  let v1246 : BitVec 32 := Scalar.muli v7 c1_i32_1383
  let v1247 : BitVec 32 := Scalar.addi c0_i32_1384 v1246
  v1247.toNat
def k0_dev67 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1416 : BitVec 32 := 1#32
  let v1269 : BitVec 32 := Scalar.muli v7 c1_i32_1416
  let v1270 : BitVec 32 := Scalar.addi c0_i32_1417 v1269
  v1270.toNat
def k0_dev68 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1423 : BitVec 32 := 1#32
  let v1279 : BitVec 32 := Scalar.muli v5 c1_i32_1423
  let v1280 : BitVec 32 := Scalar.addi c0_i32_1424 v1279
  v1280.toNat
def k0_dev69 (d0 : Dev nD) : Nat :=
  let c0_i32_1457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1456 : BitVec 32 := 1#32
  let v1302 : BitVec 32 := Scalar.muli v5 c1_i32_1456
  let v1303 : BitVec 32 := Scalar.addi c0_i32_1457 v1302
  v1303.toNat
def k0_dev70 (d0 : Dev nD) : Nat :=
  let c0_i32_1464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1463 : BitVec 32 := 1#32
  let v1312 : BitVec 32 := Scalar.muli v7 c1_i32_1463
  let v1313 : BitVec 32 := Scalar.addi c0_i32_1464 v1312
  v1313.toNat
def k0_dev71 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1512 : BitVec 32 := 1#32
  let v1356 : BitVec 32 := Scalar.muli v7 c1_i32_1512
  let v1357 : BitVec 32 := Scalar.addi c0_i32_1513 v1356
  v1357.toNat
def k0_dev72 (d0 : Dev nD) : Nat :=
  let c0_i32_1520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1519 : BitVec 32 := 1#32
  let v1366 : BitVec 32 := Scalar.muli v5 c1_i32_1519
  let v1367 : BitVec 32 := Scalar.addi c0_i32_1520 v1366
  v1367.toNat
def k0_dev73 (d0 : Dev nD) : Nat :=
  let c0_i32_1553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1552 : BitVec 32 := 1#32
  let v1389 : BitVec 32 := Scalar.muli v5 c1_i32_1552
  let v1390 : BitVec 32 := Scalar.addi c0_i32_1553 v1389
  v1390.toNat
def k0_dev74 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1559 : BitVec 32 := 1#32
  let v1399 : BitVec 32 := Scalar.muli v7 c1_i32_1559
  let v1400 : BitVec 32 := Scalar.addi c0_i32_1560 v1399
  v1400.toNat
def k0_dev75 (d0 : Dev nD) : Nat :=
  let c0_i32_1593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1592 : BitVec 32 := 1#32
  let v1422 : BitVec 32 := Scalar.muli v7 c1_i32_1592
  let v1423 : BitVec 32 := Scalar.addi c0_i32_1593 v1422
  v1423.toNat
def k0_dev76 (d0 : Dev nD) : Nat :=
  let c0_i32_1600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1599 : BitVec 32 := 1#32
  let v1432 : BitVec 32 := Scalar.muli v5 c1_i32_1599
  let v1433 : BitVec 32 := Scalar.addi c0_i32_1600 v1432
  v1433.toNat
def k0_dev77 (d0 : Dev nD) : Nat :=
  let c0_i32_1633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1632 : BitVec 32 := 1#32
  let v1455 : BitVec 32 := Scalar.muli v5 c1_i32_1632
  let v1456 : BitVec 32 := Scalar.addi c0_i32_1633 v1455
  v1456.toNat
def k0_dev78 (d0 : Dev nD) : Nat :=
  let c0_i32_1640 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1639 : BitVec 32 := 1#32
  let v1465 : BitVec 32 := Scalar.muli v7 c1_i32_1639
  let v1466 : BitVec 32 := Scalar.addi c0_i32_1640 v1465
  v1466.toNat
def k0_dev79 (d0 : Dev nD) : Nat :=
  let c0_i32_1689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1688 : BitVec 32 := 1#32
  let v1509 : BitVec 32 := Scalar.muli v7 c1_i32_1688
  let v1510 : BitVec 32 := Scalar.addi c0_i32_1689 v1509
  v1510.toNat
def k0_dev80 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1695 : BitVec 32 := 1#32
  let v1519 : BitVec 32 := Scalar.muli v5 c1_i32_1695
  let v1520 : BitVec 32 := Scalar.addi c0_i32_1696 v1519
  v1520.toNat
def k0_dev81 (d0 : Dev nD) : Nat :=
  let c0_i32_1729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1728 : BitVec 32 := 1#32
  let v1542 : BitVec 32 := Scalar.muli v5 c1_i32_1728
  let v1543 : BitVec 32 := Scalar.addi c0_i32_1729 v1542
  v1543.toNat
def k0_dev82 (d0 : Dev nD) : Nat :=
  let c0_i32_1736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1735 : BitVec 32 := 1#32
  let v1552 : BitVec 32 := Scalar.muli v7 c1_i32_1735
  let v1553 : BitVec 32 := Scalar.addi c0_i32_1736 v1552
  v1553.toNat
def k0_dev83 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1768 : BitVec 32 := 1#32
  let v1575 : BitVec 32 := Scalar.muli v7 c1_i32_1768
  let v1576 : BitVec 32 := Scalar.addi c0_i32_1769 v1575
  v1576.toNat
def k0_dev84 (d0 : Dev nD) : Nat :=
  let c0_i32_1776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1775 : BitVec 32 := 1#32
  let v1585 : BitVec 32 := Scalar.muli v5 c1_i32_1775
  let v1586 : BitVec 32 := Scalar.addi c0_i32_1776 v1585
  v1586.toNat
def k0_dev85 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1808 : BitVec 32 := 1#32
  let v1608 : BitVec 32 := Scalar.muli v5 c1_i32_1808
  let v1609 : BitVec 32 := Scalar.addi c0_i32_1809 v1608
  v1609.toNat
def k0_dev86 (d0 : Dev nD) : Nat :=
  let c0_i32_1816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1815 : BitVec 32 := 1#32
  let v1618 : BitVec 32 := Scalar.muli v7 c1_i32_1815
  let v1619 : BitVec 32 := Scalar.addi c0_i32_1816 v1618
  v1619.toNat
def k0_dev87 (d0 : Dev nD) : Nat :=
  let c0_i32_1865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1864 : BitVec 32 := 1#32
  let v1662 : BitVec 32 := Scalar.muli v7 c1_i32_1864
  let v1663 : BitVec 32 := Scalar.addi c0_i32_1865 v1662
  v1663.toNat
def k0_dev88 (d0 : Dev nD) : Nat :=
  let c0_i32_1872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1871 : BitVec 32 := 1#32
  let v1672 : BitVec 32 := Scalar.muli v5 c1_i32_1871
  let v1673 : BitVec 32 := Scalar.addi c0_i32_1872 v1672
  v1673.toNat
def k0_dev89 (d0 : Dev nD) : Nat :=
  let c0_i32_1905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1904 : BitVec 32 := 1#32
  let v1695 : BitVec 32 := Scalar.muli v5 c1_i32_1904
  let v1696 : BitVec 32 := Scalar.addi c0_i32_1905 v1695
  v1696.toNat
def k0_dev90 (d0 : Dev nD) : Nat :=
  let c0_i32_1912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1911 : BitVec 32 := 1#32
  let v1705 : BitVec 32 := Scalar.muli v7 c1_i32_1911
  let v1706 : BitVec 32 := Scalar.addi c0_i32_1912 v1705
  v1706.toNat
def k0_dev91 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1944 : BitVec 32 := 1#32
  let v1728 : BitVec 32 := Scalar.muli v7 c1_i32_1944
  let v1729 : BitVec 32 := Scalar.addi c0_i32_1945 v1728
  v1729.toNat
def k0_dev92 (d0 : Dev nD) : Nat :=
  let c0_i32_1952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1951 : BitVec 32 := 1#32
  let v1738 : BitVec 32 := Scalar.muli v5 c1_i32_1951
  let v1739 : BitVec 32 := Scalar.addi c0_i32_1952 v1738
  v1739.toNat
def k0_dev93 (d0 : Dev nD) : Nat :=
  let c0_i32_1985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1984 : BitVec 32 := 1#32
  let v1761 : BitVec 32 := Scalar.muli v5 c1_i32_1984
  let v1762 : BitVec 32 := Scalar.addi c0_i32_1985 v1761
  v1762.toNat
def k0_dev94 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1991 : BitVec 32 := 1#32
  let v1771 : BitVec 32 := Scalar.muli v7 c1_i32_1991
  let v1772 : BitVec 32 := Scalar.addi c0_i32_1992 v1771
  v1772.toNat
def k0_dev95 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2040 : BitVec 32 := 1#32
  let v1815 : BitVec 32 := Scalar.muli v7 c1_i32_2040
  let v1816 : BitVec 32 := Scalar.addi c0_i32_2041 v1815
  v1816.toNat
def k0_dev96 (d0 : Dev nD) : Nat :=
  let c0_i32_2048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2047 : BitVec 32 := 1#32
  let v1825 : BitVec 32 := Scalar.muli v5 c1_i32_2047
  let v1826 : BitVec 32 := Scalar.addi c0_i32_2048 v1825
  v1826.toNat
def k0_dev97 (d0 : Dev nD) : Nat :=
  let c0_i32_2081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2080 : BitVec 32 := 1#32
  let v1848 : BitVec 32 := Scalar.muli v5 c1_i32_2080
  let v1849 : BitVec 32 := Scalar.addi c0_i32_2081 v1848
  v1849.toNat
def k0_dev98 (d0 : Dev nD) : Nat :=
  let c0_i32_2088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2087 : BitVec 32 := 1#32
  let v1858 : BitVec 32 := Scalar.muli v7 c1_i32_2087
  let v1859 : BitVec 32 := Scalar.addi c0_i32_2088 v1858
  v1859.toNat
def k0_dev99 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2120 : BitVec 32 := 1#32
  let v1881 : BitVec 32 := Scalar.muli v7 c1_i32_2120
  let v1882 : BitVec 32 := Scalar.addi c0_i32_2121 v1881
  v1882.toNat
def k0_dev100 (d0 : Dev nD) : Nat :=
  let c0_i32_2128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2127 : BitVec 32 := 1#32
  let v1891 : BitVec 32 := Scalar.muli v5 c1_i32_2127
  let v1892 : BitVec 32 := Scalar.addi c0_i32_2128 v1891
  v1892.toNat
def k0_dev101 (d0 : Dev nD) : Nat :=
  let c0_i32_2161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2160 : BitVec 32 := 1#32
  let v1914 : BitVec 32 := Scalar.muli v5 c1_i32_2160
  let v1915 : BitVec 32 := Scalar.addi c0_i32_2161 v1914
  v1915.toNat
def k0_dev102 (d0 : Dev nD) : Nat :=
  let c0_i32_2168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2167 : BitVec 32 := 1#32
  let v1924 : BitVec 32 := Scalar.muli v7 c1_i32_2167
  let v1925 : BitVec 32 := Scalar.addi c0_i32_2168 v1924
  v1925.toNat
def k0_dev103 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2216 : BitVec 32 := 1#32
  let v1968 : BitVec 32 := Scalar.muli v7 c1_i32_2216
  let v1969 : BitVec 32 := Scalar.addi c0_i32_2217 v1968
  v1969.toNat
def k0_dev104 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2253 : BitVec 32 := 1#32
  let v1999 : BitVec 32 := Scalar.muli v5 c1_i32_2253
  let v2000 : BitVec 32 := Scalar.addi c0_i32_2254 v1999
  v2000.toNat
def k0_dev105 (d0 : Dev nD) : Nat :=
  let c0_i32_2291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2290 : BitVec 32 := 1#32
  let v2030 : BitVec 32 := Scalar.muli v7 c1_i32_2290
  let v2031 : BitVec 32 := Scalar.addi c0_i32_2291 v2030
  v2031.toNat
def k0_dev106 (d0 : Dev nD) : Nat :=
  let c0_i32_2328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2327 : BitVec 32 := 1#32
  let v2061 : BitVec 32 := Scalar.muli v5 c1_i32_2327
  let v2062 : BitVec 32 := Scalar.addi c0_i32_2328 v2061
  v2062.toNat
def k0_dev107 (d0 : Dev nD) : Nat :=
  let c0_i32_2381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2380 : BitVec 32 := 1#32
  let v2113 : BitVec 32 := Scalar.muli v7 c1_i32_2380
  let v2114 : BitVec 32 := Scalar.addi c0_i32_2381 v2113
  v2114.toNat
def k0_dev108 (d0 : Dev nD) : Nat :=
  let c0_i32_2418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2417 : BitVec 32 := 1#32
  let v2144 : BitVec 32 := Scalar.muli v5 c1_i32_2417
  let v2145 : BitVec 32 := Scalar.addi c0_i32_2418 v2144
  v2145.toNat
def k0_dev109 (d0 : Dev nD) : Nat :=
  let c0_i32_2455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2454 : BitVec 32 := 1#32
  let v2175 : BitVec 32 := Scalar.muli v7 c1_i32_2454
  let v2176 : BitVec 32 := Scalar.addi c0_i32_2455 v2175
  v2176.toNat
def k0_dev110 (d0 : Dev nD) : Nat :=
  let c0_i32_2492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2491 : BitVec 32 := 1#32
  let v2206 : BitVec 32 := Scalar.muli v5 c1_i32_2491
  let v2207 : BitVec 32 := Scalar.addi c0_i32_2492 v2206
  v2207.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2499 : BitVec 32 := 256#32
  let v2219 : BitVec 32 := Scalar.muli v2 c256_i32_2499
  let v2220 : Index := Scalar.indexCast v2219
  let c0_2500 : Index := 0#32
  ![v2220.toNat, 0]
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Steps.lean ====
/-
  The kernel's body written once per step of the ring.  The printed body repeats the same
  operations for each of the fifteen steps and four streams; `bodyC` is the same sequence of operations as a
  recursion over the steps, with the stream and the step as parameters (`cc0_body_eq`: by
  unfolding).

  A STREAM is one of the four chains of partial sums: streams 0 and 2 go to the right neighbour, 1
  and 3 to the left; streams 0 and 1 carry the first half of their product's columns, 2 and 3 the
  second.
-/
module

public import proofs.«01_k».proof.Proof.Gen.KernelIdeal

@[expose] public section

set_option synthInstance.maxSize 4096
set_option maxRecDepth 65536

noncomputable section

namespace Cert.KernelIdeal.Gen

open Idealize.ShloMosaic Idealize.SL.Sem

variable {F : FTy → Type} [FloatOps F]

/-- One of four, by the stream. -/
def sel4 {α : Type _} (a b c d : α) : Fin 4 → α
  | 0 => a
  | 1 => b
  | 2 => c
  | 3 => d

/-- The slot of a four-slot buffer that step `s` uses. -/
def slot (s : ℕ) : Fin 4 := ⟨s % 4, Nat.mod_lt _ (by decide)⟩

/-- The right neighbour. -/
def rt (d : Dev nD) : Dev nD := ⟨k0_dev3 d, k0_dev3_lt d⟩

/-- The left neighbour. -/
def lf (d : Dev nD) : Dev nD := ⟨k0_dev4 d, k0_dev4_lt d⟩

/-- The device stream `i` of device `d` sends to. -/
def dn (i : Fin 4) (d : Dev nD) : Dev nD := sel4 (rt d) (lf d) (rt d) (lf d) i

/-- The device stream `i` of device `d` receives from. -/
def up (i : Fin 4) (d : Dev nD) : Dev nD := sel4 (lf d) (rt d) (lf d) (rt d) i

theorem inb_slot (j : Fin 4) : ∀ a, (![j.val, 0, 0] : Fin 3 → Nat) a + S1x256x512.size a ≤ S4x256x512.size a := by
  revert j; decide

theorem inb_sem (j : Fin 4) : ∀ a, (![j.val] : Fin 1 → Nat) a + S1.size a ≤ S4.size a := by
  revert j; decide

/-- Slot `j` of a four-slot buffer, as a rectangle. -/
abbrev slotR (j : Fin 4) : Rect S4x256x512 := Rect.unit (s := S4x256x512) ![j.val, 0, 0] S1x256x512.size (inb_slot j)

/-- Slot `j` of a four-slot buffer, as a view of two axes. -/
abbrev slotV (m : Memref sig .tc .vmem S4x256x512 .i32) (j : Fin 4) : Memref sig .tc .vmem S256x512 .i32 :=
  (m.slice (slotR j) (fun _ => rfl)).squeeze S256x512 squeezes_S1x256x512_S256x512

/-- Element `j` of an array of four transfer semaphores. -/
abbrev semV (m : DmaSems sig S4) (j : Fin 4) : DmaSem sig :=
  ((m.slice (Rect.unit (s := S4) ![j.val] S1.size (inb_sem j))).squeeze S_ squeezes_S1_S_).sem

/-- The column a stream's chunk of its product starts at. -/
def halfOff : Fin 4 → Fin 2 → ℕ := sel4 ![0, 0] ![0, 0] ![0, 512] ![0, 512]

theorem halfOff_slices (i : Fin 4) : S256x1024.Slices (halfOff i) S256x512 := by
  match i with
  | 0 => exact slices_S256x1024_o0_0_S256x512
  | 1 => exact slices_S256x1024_o0_0_S256x512
  | 2 => exact slices_S256x1024_o0_512_S256x512
  | 3 => exact slices_S256x1024_o0_512_S256x512

/-- The product of a block of `x` and a half of `w`. -/
def prodOf (xb : Vec F S256x256 .i8) (wb : Vec F S256x1024 .i8) : IVec S256x1024 32 :=
  matmulI8 IntMxuNumerics.v7x dot_S256x256_S256x1024_S256x1024_1_0_0_1_n_n
    (shapeCast S256x256 xb shapeCasts_S256x256_S256x256 : IVec S256x256 8)
    (shapeCast S256x1024 wb shapeCasts_S256x1024_S256x1024 : IVec S256x1024 8)
    (constantI S256x1024 32 0#32)

/-- A stream's chunk of a product. -/
def chunkOf (i : Fin 4) (p : IVec S256x1024 32) : IVec S256x512 32 :=
  extractStridedSlice S256x512 (halfOff i) p (halfOff_slices i)

/-- A chunk as the one slot of a buffer it is stored in. -/
def asSlot (v : IVec S256x512 32) : IVec S1x256x512 32 := shapeCast S1x256x512 v shapeCasts_S256x512_S1x256x512

/-- A loaded slot as a chunk. -/
def ofSlot (v : Vec F S1x256x512 .i32) : IVec S256x512 32 := shapeCast S256x512 v shapeCasts_S1x256x512_S256x512

/-- A received partial sum with this device's own chunk added. -/
def addSlot (c : IVec S256x512 32) (v : Vec F S1x256x512 .i32) : IVec S1x256x512 32 := asSlot (addi (ofSlot (F := F) v) c)

/-- The result's block from the last received partial sum. -/
def finOf (sc : F .f32) (c : IVec S256x512 32) (v : Vec F S1x256x512 .i32) : FVec F S256x512 .f32 :=
  maximumf (mulf (sitofp .f32 (addi (ofSlot (F := F) v) c)) (broadcast S256x512 sc))
    (broadcast S256x512 (Scalar.ofBits .f32 0x00000000#32))

/-- The column of the result a stream's block starts at. -/
def outOff : Fin 4 → Fin 2 → ℕ := sel4 ![0, 0] ![0, 1024] ![0, 512] ![0, 1536]

theorem outOff_inb (i : Fin 4) : ∀ a, (outOff i) a + S256x512.size a ≤ S256x2048.size a := by
  revert i; decide

/-- The block of the result a stream writes. -/
abbrev outR (i : Fin 4) : Rect S256x2048 := Rect.unit (s := S256x2048) (outOff i) S256x512.size (outOff_inb i)

section body

variable (arg0 : Memref sig .tc .vmem S4096x256 .i8) (arg1 : Memref sig .tc .vmem S256x2048 .i8)
  (arg2 arg3 : Memref sig .tc .smem S1 .f32) (arg4 : Memref sig .tc .vmem S256x2048 .f32)
  (cm : Fin 4 → Memref sig .tc .vmem S4x256x512 .i32) (ss rs : Fin 4 → DmaSems sig S4) (cr : Fin 4 → Sems sig S_)

/-- The program type of the body. -/
abbrev BProg (F : FTy → Type) := Prog (TpuEff nD τ sig (Elt F) Λ₀ .tc) PUnit.{1}

/-- The wait for the transfer that fills slot `j` (received on `rs`). -/
def waitRecvC (i : Fin 4) (j j' : Fin 4) (k : BProg F) : BProg F :=
  .op (.waitDma2 (semV (rs i) j) (slotV (cm i) j') (slotV (cm i) j)
    ((View.wordExact_bits rfl).reshape _ _) ((View.wordExact_bits rfl).reshape _ _)) fun _ => k

/-- The wait for the transfer that reads slot `j` (sent on `ss`). -/
def waitSendC (i : Fin 4) (j j' : Fin 4) (k : BProg F) : BProg F :=
  .op (.waitDma2 (semV (ss i) j) (slotV (cm i) j') (slotV (cm i) j)
    ((View.wordExact_bits rfl).reshape _ _) ((View.wordExact_bits rfl).reshape _ _)) fun _ => k

/-- A load of slot `j`. -/
def loadC (i : Fin 4) (j : Fin 4) (k : Vec F S1x256x512 .i32 → BProg F) : BProg F :=
  .op (.load (cm i) (slotR j).toLoadRect (View.loadsAt_vmem h_S1x256x512)) k

/-- A store to slot `j`. -/
def storeC (i : Fin 4) (j : Fin 4) (v : IVec S1x256x512 32) (k : BProg F) : BProg F :=
  .op (.store (cm i) (slotR j) v Finset.univ (View.stores_vmem_bits_univ h_S1x256x512 rfl) (.inl rfl)) fun _ => k

/-- The transfer of slot `j` into the next device's slot `j'`. -/
def sendC (d : Dev nD) (i : Fin 4) (j j' : Fin 4) (k : BProg F) : BProg F :=
  .op (.enqueueDma (slotV (cm i) j) (.remote (Dev.tc (dn i d)) (slotV (cm i) j') (.dma (semV (ss i) j)))
    (.dma (semV (rs i) j')) ((View.wordExact_bits rfl).reshape _ _) ((View.wordExact_bits rfl).reshape _ _)
    ⟨⟨rfl, Or.inl rfl⟩, trivial⟩) fun _ => k

/-- The wait for one credit. -/
def waitCreditC (i : Fin 4) (k : BProg F) : BProg F := .op (.semWait (cr i).sem (1#32 : BitVec 32).toInt) fun _ => k

/-- One credit to the device this stream receives from. -/
def creditC (d : Dev nD) (i : Fin 4) (k : BProg F) : BProg F :=
  .op (.semSignal ((up i d), .tc) (cr i).sem (1#32 : BitVec 32).toInt) fun _ => k

/-- Step 0 of a stream: store the own chunk and send it. -/
def firstC (d : Dev nD) (i : Fin 4) (c : IVec S256x512 32) (k : BProg F) : BProg F :=
  loadC cm i (slot 0) fun _ => storeC cm i (slot 0) (asSlot c) <| sendC cm ss rs d i (slot 0) (slot 1) k

/-- Step `s + 1` of a stream up to the store: the received partial sum with the own chunk added. -/
def recvAddC (i : Fin 4) (s : ℕ) (c : IVec S256x512 32) (k : BProg F) : BProg F :=
  waitRecvC cm rs i (slot (s + 1)) (slot s) <| waitSendC cm ss i (slot s) (slot (s + 1)) <|
  loadC cm i (slot (s + 1)) fun v => loadC cm i (slot (s + 1)) fun _ =>
  storeC cm i (slot (s + 1)) (addSlot (F := F) c v) k

/-- Step `s + 1` of a stream. -/
def nextC (d : Dev nD) (i : Fin 4) (s : ℕ) (c : IVec S256x512 32) (k : BProg F) : BProg F :=
  recvAddC cm ss rs i s c <|
  (if 2 ≤ s then waitCreditC cr i else id) <|
  sendC cm ss rs d i (slot (s + 1)) (slot (s + 2)) <|
  (if s < 12 then creditC cr d i else id) k

/-- The four loads of a step and its two products. -/
def loadsC (d : Dev nD) (s : Fin 15) (k : IVec S256x1024 32 → IVec S256x1024 32 → BProg F) : BProg F :=
  .op (.load arg0 (Rect.unit (s := S4096x256) (k0_off1 d (BitVec.ofNat 32 s.val)) S256x256.size (k0_off1_inb d s)).toLoadRect
    (View.loadsAt_vmem h_S256x256)) fun x0 =>
  .op (.load arg1 (Rect.unit (s := S256x2048) ![0, 0] S256x1024.size inb_S256x2048_S256x1024_0_0).toLoadRect
    (View.loadsAt_vmem h_S256x1024)) fun w0 =>
  .op (.load arg0 (Rect.unit (s := S4096x256) (k0_off2 d (BitVec.ofNat 32 s.val)) S256x256.size (k0_off2_inb d s)).toLoadRect
    (View.loadsAt_vmem h_S256x256)) fun x1 =>
  .op (.load arg1 (Rect.unit (s := S256x2048) ![0, 1024] S256x1024.size inb_S256x2048_S256x1024_0_1024).toLoadRect
    (View.loadsAt_vmem h_S256x1024)) fun w1 =>
  k (prodOf (F := F) x0 w0) (prodOf (F := F) x1 w1)

/-- Steps `s + 1`, … of the ring, `n` of them. -/
def stepsC (d : Dev nD) (k : BProg F) : (n s : ℕ) → s + n < 15 → BProg F
  | 0, _, _ => k
  | n + 1, s, h =>
    loadsC arg0 arg1 d ⟨s + 1, by omega⟩ fun p q =>
    nextC cm ss rs cr d 0 s (chunkOf 0 p) <| nextC cm ss rs cr d 1 s (chunkOf 1 q) <|
    nextC cm ss rs cr d 2 s (chunkOf 2 p) <| nextC cm ss rs cr d 3 s (chunkOf 3 q) <|
    stepsC d k n (s + 1) (by omega)

/-- The last receipt of a stream and its block of the result. -/
def finC (i : Fin 4) (sc : F .f32) (c : IVec S256x512 32) (k : BProg F) : BProg F :=
  waitRecvC cm rs i (slot 3) (slot 2) <| waitSendC cm ss i (slot 2) (slot 3) <|
  loadC cm i (slot 3) fun v =>
  .op (.load arg4 (outR i).toLoadRect (View.loadsAt_vmem h_S256x512)) fun _ =>
  .op (.store arg4 (outR i) (finOf (F := F) sc c v) Finset.univ (View.stores_vmem_bits_univ h_S256x512 rfl) (.inl rfl))
    fun _ => k

/-- The end of the body: the scale, the products of the own block, the four last receipts. -/
def endC (d : Dev nD) : BProg F :=
  .op (.load arg2 (Rect.unit (s := S1) ![0] S1.size inb_S1_S1_0).toLoadRect (View.loadsAt_rect (View.loads_smem_one rfl numel1_S1))) fun s0 =>
  .op (.load arg3 (Rect.unit (s := S1) ![0] S1.size inb_S1_S1_0).toLoadRect (View.loadsAt_rect (View.loads_smem_one rfl numel1_S1))) fun s1 =>
  .op (.load arg0 (Rect.unit (s := S4096x256) (k0_off3 d) S256x256.size (k0_off3_inb d)).toLoadRect
    (View.loadsAt_vmem h_S256x256)) fun x0 =>
  .op (.load arg1 (Rect.unit (s := S256x2048) ![0, 0] S256x1024.size inb_S256x2048_S256x1024_0_0).toLoadRect
    (View.loadsAt_vmem h_S256x1024)) fun w0 =>
  finC arg4 cm ss rs 0 (Scalar.mulf (s0 (Shape.Idx.first (numel1_S1.symm ▸ Nat.one_pos))) (s1 (Shape.Idx.first (numel1_S1.symm ▸ Nat.one_pos))))
    (chunkOf 0 (prodOf (F := F) x0 w0)) <|
  finC arg4 cm ss rs 2 (Scalar.mulf (s0 (Shape.Idx.first (numel1_S1.symm ▸ Nat.one_pos))) (s1 (Shape.Idx.first (numel1_S1.symm ▸ Nat.one_pos))))
    (chunkOf 2 (prodOf (F := F) x0 w0)) <|
  .op (.load arg0 (Rect.unit (s := S4096x256) (k0_off3 d) S256x256.size (k0_off3_inb d)).toLoadRect
    (View.loadsAt_vmem h_S256x256)) fun x1 =>
  .op (.load arg1 (Rect.unit (s := S256x2048) ![0, 1024] S256x1024.size inb_S256x2048_S256x1024_0_1024).toLoadRect
    (View.loadsAt_vmem h_S256x1024)) fun w1 =>
  finC arg4 cm ss rs 1 (Scalar.mulf (s0 (Shape.Idx.first (numel1_S1.symm ▸ Nat.one_pos))) (s1 (Shape.Idx.first (numel1_S1.symm ▸ Nat.one_pos))))
    (chunkOf 1 (prodOf (F := F) x1 w1)) <|
  finC arg4 cm ss rs 3 (Scalar.mulf (s0 (Shape.Idx.first (numel1_S1.symm ▸ Nat.one_pos))) (s1 (Shape.Idx.first (numel1_S1.symm ▸ Nat.one_pos))))
    (chunkOf 3 (prodOf (F := F) x1 w1)) <|
  .ret ⟨⟩

/-- The body, from the device's number on. -/
def mainC (d : Dev nD) : BProg F :=
  .op (.semSignal (lf d, .tc) (SemArray.scalar (sig.barrier 0 rfl) : Sems sig S_).sem (1#32 : BitVec 32).toInt) fun _ =>
  .op (.semSignal (rt d, .tc) (SemArray.scalar (sig.barrier 0 rfl) : Sems sig S_).sem (1#32 : BitVec 32).toInt) fun _ =>
  .op (.semWait (SemArray.scalar (sig.barrier 0 rfl) : Sems sig S_).sem (2#32 : BitVec 32).toInt) fun _ =>
  loadsC arg0 arg1 d 0 fun p q =>
  firstC cm ss rs d 0 (chunkOf 0 p) <| firstC cm ss rs d 1 (chunkOf 1 q) <|
  firstC cm ss rs d 2 (chunkOf 2 p) <| firstC cm ss rs d 3 (chunkOf 3 q) <|
  stepsC arg0 arg1 cm ss rs cr d (endC arg0 arg1 arg2 arg3 arg4 cm ss rs d) 14 0 (by decide)

/-- The body, step by step. -/
def bodyC : BProg F := .op .deviceId fun d => mainC arg0 arg1 arg2 arg3 arg4 cm ss rs cr d

end body

theorem cc0_body_eq (arg0 : Memref sig .tc .vmem S4096x256 .i8) (harg0 : arg0.IsWhole) (arg1 : Memref sig .tc .vmem S256x2048 .i8) (harg1 : arg1.IsWhole) (arg2 : Memref sig .tc .smem S1 .f32) (harg2 : arg2.IsWhole) (arg3 : Memref sig .tc .smem S1 .f32) (harg3 : arg3.IsWhole) (arg4 : Memref sig .tc .vmem S256x2048 .f32) (harg4 : arg4.IsWhole) (arg5 : Memref sig .tc .vmem S4x256x512 .i32) (harg5 : arg5.IsWhole) (arg6 : Memref sig .tc .vmem S4x256x512 .i32) (harg6 : arg6.IsWhole) (arg7 : Memref sig .tc .vmem S4x256x512 .i32) (harg7 : arg7.IsWhole) (arg8 : Memref sig .tc .vmem S4x256x512 .i32) (harg8 : arg8.IsWhole) (arg9 arg10 arg11 arg12 arg13 arg14 arg15 arg16 : DmaSems sig S4) (arg17 arg18 arg19 arg20 : Sems sig S_) :
    cc0_body (F := F) arg0 harg0 arg1 harg1 arg2 harg2 arg3 harg3 arg4 harg4 arg5 harg5 arg6 harg6 arg7 harg7 arg8 harg8 arg9 arg10 arg11 arg12 arg13 arg14 arg15 arg16 arg17 arg18 arg19 arg20
      = bodyC arg0 arg1 arg2 arg3 arg4 (sel4 arg5 arg6 arg7 arg8) (sel4 arg9 arg10 arg11 arg12) (sel4 arg13 arg14 arg15 arg16)
          (sel4 arg17 arg18 arg19 arg20) := rfl

end Cert.KernelIdeal.Gen
-- ==== Proof.Protocol.lean ====
/-
  The protocol of the ring, under the rounds library (Lib/Rounds.lean), the barrier semaphore and
  the four streams' send, receive and credit semaphores of every device as its cells.

  The message of step `t` of a stream leaves slot `t % 4` of the sender and lands in slot
  `(t + 1) % 4` of the next device.  It needs that slot's elements, which are handed over
    * for the messages 0, 1, 2 by the next device's barrier signal, and
    * for message `k + 3` by the next device's credit number `k`.
  Several credits can be under way to one semaphore, and the machine may deliver them in either
  order.  So a credit hands over no slot itself: the slot is put in a MAILBOX, an invariant shared
  by the two devices, before the credit is signalled, and the credit tells how many slots have been
  put there.
-/
module

public import proofs.«01_k».proof.Proof.Steps
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.SL.BI.BigOpNat

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Iterated conjunctions -/

section BigSep
variable {I : Type} {M : Type*} [URA M] [DecidableEq I]
theorem bigSep_elim' {s : Finset I} {i : I} (h : i ∈ s) {Φ : I → sProp M} : (bigSep s Φ : sProp M) ⊢ Φ i := bigSep_elim h
theorem bigSep_erase' {s : Finset I} {i : I} (h : i ∈ s) (Φ : I → sProp M) : bigSep s Φ = iprop(Φ i ∗ bigSep (s.erase i) Φ) := bigSep_erase h
theorem bigSep_insert' {s : Finset I} {i : I} (h : i ∉ s) (Φ : I → sProp M) : bigSep (insert i s) Φ = iprop(Φ i ∗ bigSep s Φ) := bigSep_insert h
theorem bigSep_union' {s t : Finset I} (h : Disjoint s t) (Φ : I → sProp M) : bigSep (s ∪ t) Φ = iprop(bigSep s Φ ∗ bigSep t Φ) := bigSep_union h
end BigSep

/-! ## The resource algebra -/

/-- The ring's rounds. -/
abbrev UB : Type := URounds (GSem nD τ sig) ℕ
/-- A mailbox: a device and the stream it sends on. -/
abbrev MK : Type := Dev nD × Fin 4
/-- The mailboxes' counters. -/
abbrev UM : Type := URounds MK ℕ
/-- The pipeline library's copy beside these two. -/
abbrev UU : Type := UR sig nD τ × (UB × UM)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × UM)).trans embR
abbrev EM : Emb UM (MT nD τ sig ℕ (Elt F) ℕ UU ℕ) := (Emb.inr : Emb UM (UB × UM)).trans embR

variable (m : (ℓ : Loc nD τ sig) → Buf (Elt F) ℓ)

abbrev 𝒱₀ : Variants := Variants.none

/-! ## The ring -/

theorem lf_rt (c : Dev nD) : lf (rt c) = c := by revert c; decide +kernel
theorem rt_lf (c : Dev nD) : rt (lf c) = c := by revert c; decide +kernel
theorem up_dn (i : Fin 4) (c : Dev nD) : up i (dn i c) = c := by
  match i with
  | 0 => exact lf_rt c
  | 1 => exact rt_lf c
  | 2 => exact lf_rt c
  | 3 => exact rt_lf c
theorem dn_up (i : Fin 4) (c : Dev nD) : dn i (up i c) = c := by
  match i with
  | 0 => exact rt_lf c
  | 1 => exact lf_rt c
  | 2 => exact rt_lf c
  | 3 => exact lf_rt c

theorem slot_add_four (s : ℕ) : slot (s + 4) = slot s := Fin.ext (Nat.add_mod_right s 4)

/-! ## The buffers and the semaphores -/

abbrev xM : Memref sig .tc .vmem S4096x256 .i8 := Memref.whole cc0_stg0_0
abbrev wM : Memref sig .tc .vmem S256x2048 .i8 := Memref.whole cc0_stg1_0
abbrev oM : Memref sig .tc .vmem S256x2048 .f32 := Memref.whole cc0_stg4_0

/-- The four slots of a stream. -/
def cm : Fin 4 → Memref sig .tc .vmem S4x256x512 .i32 :=
  sel4 (Memref.whole cc0_scratch0) (Memref.whole cc0_scratch1) (Memref.whole cc0_scratch2) (Memref.whole cc0_scratch3)
/-- The send semaphores of a stream, one per slot. -/
def ss : Fin 4 → DmaSems sig S4 := sel4 cc0_scratch4 cc0_scratch5 cc0_scratch6 cc0_scratch7
/-- The receive semaphores of a stream, one per slot. -/
def rs : Fin 4 → DmaSems sig S4 := sel4 cc0_scratch8 cc0_scratch9 cc0_scratch10 cc0_scratch11
/-- The credit semaphore of a stream. -/
def cr : Fin 4 → Sems sig S_ := sel4 cc0_scratch12 cc0_scratch13 cc0_scratch14 cc0_scratch15

abbrev barS : Sem sig := (SemArray.scalar (sig.barrier 0 rfl) : Sems sig S_).sem

/-- Which cell of a device: the barrier's, a stream's credit cell, its send cell or receive cell of a slot. -/
abbrev CK : Type := Unit ⊕ (Fin 4 ⊕ ((Fin 4 × Fin 4) ⊕ (Fin 4 × Fin 4)))

abbrev kBar : CK := .inl ()
abbrev kCr (i : Fin 4) : CK := .inr (.inl i)
abbrev kSd (i j : Fin 4) : CK := .inr (.inr (.inl (i, j)))
abbrev kRc (i j : Fin 4) : CK := .inr (.inr (.inr (i, j)))

/-- The kernel's own semaphores. -/
def osem : Fin 4 ⊕ ((Fin 4 × Fin 4) ⊕ (Fin 4 × Fin 4)) → SemLoc sig
  | .inl i => .reg (cr i).sem
  | .inr (.inl (i, j)) => .dma (semV (ss i) j)
  | .inr (.inr (i, j)) => .dma (semV (rs i) j)
/-- All of the protocol's. -/
def csem : CK → SemLoc sig
  | .inl _ => .reg barS
  | .inr k => osem k

/-- A cell of a device. -/
abbrev kcell (ck : Dev nD × CK) : GSem nD τ sig := ((ck.1 : Thread nD τ), csem ck.2)

abbrev barCell (c : Dev nD) : GSem nD τ sig := ((c : Thread nD τ), .reg barS)
abbrev crCell (c : Dev nD) (i : Fin 4) : GSem nD τ sig := ((c : Thread nD τ), .reg (cr i).sem)
abbrev sdCell (c : Dev nD) (i j : Fin 4) : GSem nD τ sig := ((c : Thread nD τ), .dma (semV (ss i) j))
abbrev rcCell (c : Dev nD) (i j : Fin 4) : GSem nD τ sig := ((c : Thread nD τ), .dma (semV (rs i) j))

theorem csem_injective : Function.Injective csem := by decide +kernel

open Classical in
/-- Which of the protocol's cells a semaphore is. -/
def kind (sm : SemLoc sig) : Option CK := if h : ∃ k, csem k = sm then some h.choose else none

theorem kind_csem (k : CK) : kind (csem k) = some k := by
  have h : ∃ k', csem k' = csem k := ⟨k, rfl⟩
  unfold kind
  rw [dif_pos h]
  exact congrArg some (csem_injective h.choose_spec)

theorem kind_none {sm : SemLoc sig} (h : ∀ k, csem k ≠ sm) : kind sm = none := by
  unfold kind
  exact dif_neg fun ⟨k, hk⟩ => h k hk

/-- The units of one message. -/
@[irreducible] def N : ℕ := (slotV (cm 0) 0).view.dmaCredit
theorem N_pos : 0 < N := by unfold N; exact View.dmaCredit_pos _ (by decide)
theorem credit_slot (i j : Fin 4) : (slotV (cm i) j).view.dmaCredit = N := by
  unfold N
  match i with
  | 0 => rfl
  | 1 => rfl
  | 2 => rfl
  | 3 => rfl

/-! ## The messages' contents -/

/-- The staged block of `x` on a device. -/
def xstg (c : Dev nD) : (cc0_stg0_0 : Ref sig .tc).ty.Contents (Elt F) :=
  (win0_0.blk t0_0).view.read (Elt F) (m ((c : Thread nD τ).loc main_arg0))
/-- The staged block of `w`. -/
def wstg (c : Dev nD) : (cc0_stg1_0 : Ref sig .tc).ty.Contents (Elt F) :=
  (win0_1.blk t0_0).view.read (Elt F) (m ((c : Thread nD τ).loc main_arg1))

/-- The first product of step `s`, for the streams 0 and 2, -/
def prodR (c : Dev nD) (s : Fin 15) : IVec S256x1024 32 :=
  prodOf (F := F)
    ((xM.view.readAt (Elt F) (Rect.unit (s := S4096x256) (k0_off1 c (BitVec.ofNat 32 s.val)) S256x256.size (k0_off1_inb c s)).toLoadRect (xstg m c)))
    ((wM.view.readAt (Elt F) (Rect.unit (s := S256x2048) ![0, 0] S256x1024.size inb_S256x2048_S256x1024_0_0).toLoadRect (wstg m c)))
/-- and the second, for the streams 1 and 3. -/
def prodL (c : Dev nD) (s : Fin 15) : IVec S256x1024 32 :=
  prodOf (F := F)
    ((xM.view.readAt (Elt F) (Rect.unit (s := S4096x256) (k0_off2 c (BitVec.ofNat 32 s.val)) S256x256.size (k0_off2_inb c s)).toLoadRect (xstg m c)))
    ((wM.view.readAt (Elt F) (Rect.unit (s := S256x2048) ![0, 1024] S256x1024.size inb_S256x2048_S256x1024_0_1024).toLoadRect (wstg m c)))
/-- The products of the device's own block. -/
def ownR (c : Dev nD) : IVec S256x1024 32 :=
  prodOf (F := F)
    ((xM.view.readAt (Elt F) (Rect.unit (s := S4096x256) (k0_off3 c) S256x256.size (k0_off3_inb c)).toLoadRect (xstg m c)))
    ((wM.view.readAt (Elt F) (Rect.unit (s := S256x2048) ![0, 0] S256x1024.size inb_S256x2048_S256x1024_0_0).toLoadRect (wstg m c)))
def ownL (c : Dev nD) : IVec S256x1024 32 :=
  prodOf (F := F)
    ((xM.view.readAt (Elt F) (Rect.unit (s := S4096x256) (k0_off3 c) S256x256.size (k0_off3_inb c)).toLoadRect (xstg m c)))
    ((wM.view.readAt (Elt F) (Rect.unit (s := S256x2048) ![0, 1024] S256x1024.size inb_S256x2048_S256x1024_0_1024).toLoadRect (wstg m c)))

/-- The chunk stream `i` adds at step `s`. -/
def chunkAt (i : Fin 4) (c : Dev nD) (s : Fin 15) : IVec S256x512 32 :=
  chunkOf i (sel4 (prodR m c s) (prodL m c s) (prodR m c s) (prodL m c s) i)
/-- The chunk of the device's own block. -/
def ownChunk (i : Fin 4) (c : Dev nD) : IVec S256x512 32 :=
  chunkOf i (sel4 (ownR m c) (ownL m c) (ownR m c) (ownL m c) i)

/-- A step's number as one of fifteen. -/
def fin15 (s : ℕ) : Fin 15 := ⟨s % 15, Nat.mod_lt _ (by decide)⟩
theorem fin15_eq {s : ℕ} (h : s < 15) : fin15 s = ⟨s, h⟩ := Fin.ext (Nat.mod_eq_of_lt h)

/-- What device `c` sends on stream `i` at step `s`: the partial sum received, with its own chunk. -/
def msg (i : Fin 4) : ℕ → Dev nD → IVec S256x512 32
  | 0, c => chunkAt m i c (fin15 0)
  | s + 1, c => addi (msg i s (up i c)) (chunkAt m i c (fin15 (s + 1)))

/-- The elements of a slot, at contents `f`. -/
def slotPts (c : Dev nD) (i j : Fin 4) (f : Buf (Elt F) ((slotV (cm i) j).view.loc (c : Thread nD τ))) : sProp 𝕄 :=
  (slotV (cm i) j).view.loc (c : Thread nD τ) ↦[(slotV (cm i) j).view.set]{fullShare} f
/-- A slot at any contents. -/
def slotAny (c : Dev nD) (i j : Fin 4) : sProp 𝕄 := iprop(∃ f, slotPts (F := F) c i j f)
/-- A slot that reads as the chunk `u`. -/
def slotHas (c : Dev nD) (i j : Fin 4) (u : IVec S256x512 32) : sProp 𝕄 :=
  iprop(∃ f, ⌜(slotV (cm i) j).view.read (Elt F) f = u⌝ ∗ slotPts (F := F) c i j f)

omit [FloatOps F] in
instance slotPts_storable (c : Dev nD) (i j : Fin 4) (f) : BI.Storable (upEmb : UEmb _ 𝕄) (slotPts (F := F) c i j f) := by
  unfold slotPts; infer_instance
omit [FloatOps F] in
instance slotAny_storable (c : Dev nD) (i j : Fin 4) : BI.Storable (upEmb : UEmb _ 𝕄) (slotAny (F := F) c i j) := by
  unfold slotAny; infer_instance
omit [FloatOps F] in
instance slotHas_storable (c : Dev nD) (i j : Fin 4) (u) : BI.Storable (upEmb : UEmb _ 𝕄) (slotHas (F := F) c i j u) := by
  unfold slotHas; infer_instance

/-! ## The schedule -/

/-- What message `t` of stream `i` of device `c` needs from the next device: the slot it lands in, and that
    the receive cell of that slot has reached the message's round. -/
def grant (i : Fin 4) (c : Dev nD) (t : ℕ) : sProp 𝕄 :=
  iprop(slotAny (F := F) (dn i c) i (slot (t + 1)) ∗ reached ER (rcCell (dn i c) i (slot (t + 1))) (t / 4))

/-- The grants of the first three messages of a stream. -/
def grant3 (i : Fin 4) (c : Dev nD) : sProp 𝕄 :=
  iprop(grant (F := F) i c 0 ∗ grant (F := F) i c 1 ∗ grant (F := F) i c 2)

/-- What the two neighbours' barrier signals hand a device: the right neighbour's (duty 0) the grants of the
    streams that go right, the left neighbour's (duty 1) those of the streams that go left. -/
def barPay (c : Dev nD) (d : ℕ) : sProp 𝕄 :=
  if d = 0 then iprop(grant3 (F := F) 0 c ∗ grant3 (F := F) 2 c) else iprop(grant3 (F := F) 1 c ∗ grant3 (F := F) 3 c)

/-- How many rounds a cell has. -/
def rounds : CK → ℕ
  | .inl _ => 1
  | .inr (.inl _) => 1
  | .inr (.inr (.inl (_, j))) => if j = 3 then 3 else 4
  | .inr (.inr (.inr (_, j))) => if j = 0 then 3 else 4

/-- The duties of a round of a cell: two signals of the barrier, the twelve credits, one transfer. -/
def duts : CK → Finset ℕ
  | .inl _ => {0, 1}
  | .inr (.inl _) => Finset.range 12
  | .inr (.inr _) => {0}

/-- The units of a duty. -/
def amt : CK → ℕ
  | .inl _ => 1
  | .inr (.inl _) => 1
  | .inr (.inr _) => N

/-- What a duty hands the device: the barrier's grants; with credit `d`, that the mailbox has had `d + 1` slots put in
    it; a slot sent from, back; the slot of message `4 r + (j + 3) % 4`, landed. -/
def pay (c : Dev nD) : CK → ℕ → ℕ → sProp 𝕄
  | .inl _, _, d => barPay (F := F) c d
  | .inr (.inl i), _, d => reached EM (c, i) (d + 1)
  | .inr (.inr (.inl (i, j))), _, _ => slotAny (F := F) c i j
  | .inr (.inr (.inr (i, j))), r, _ => slotHas c i j (msg m i (4 * r + (j.val + 3) % 4) (up i c))

theorem amt_pos (k : CK) : 0 < amt k := by
  match k with
  | .inl _ => exact Nat.one_pos
  | .inr (.inl _) => exact Nat.one_pos
  | .inr (.inr _) => unfold amt; exact N_pos

def ringRd : Rounds.Schedule (GSem nD τ sig) ℕ 𝕄 where
  duties g r := match kind g.2 with
    | some k => if g.1.2 = .tc ∧ r < rounds k then duts k else ∅
    | none => ∅
  unitless _ := False
  amount g _ _ := match kind g.2 with
    | some k => amt k
    | none => 1
  payload g r d := match kind g.2 with
    | some k => pay m g.1.1 k r d
    | none => iprop(emp)
  amount_pos g _ _ _ := by
    split
    · exact amt_pos _
    · exact Nat.one_pos

instance grant_storable (i : Fin 4) (c : Dev nD) (t : ℕ) : BI.Storable (upEmb : UEmb _ 𝕄) (grant (F := F) i c t) := by
  unfold grant; infer_instance
instance barPay_storable (c : Dev nD) (d : ℕ) : BI.Storable (upEmb : UEmb _ 𝕄) (barPay (F := F) c d) := by
  unfold barPay grant3; split <;> infer_instance
instance pay_storable (c : Dev nD) (k : CK) (r d : ℕ) : BI.Storable (upEmb : UEmb _ 𝕄) (pay m c k r d) := by
  match k with
  | .inl _ => exact barPay_storable c d
  | .inr (.inl i) => exact inferInstanceAs (BI.Storable (upEmb : UEmb _ 𝕄) (reached EM (c, i) (d + 1)))
  | .inr (.inr (.inl (i, j))) => exact slotAny_storable c i j
  | .inr (.inr (.inr (i, j))) => exact slotHas_storable c i j _
instance ringRd_payload_storable (g : GSem nD τ sig) (r : ℕ) (d : ℕ) :
    BI.Storable (upEmb : UEmb _ 𝕄) ((ringRd (F := F) m).payload g r d) := by
  unfold ringRd; dsimp only; split <;> infer_instance

theorem duties_cell (c : Dev nD) (k : CK) {r : ℕ} (h : r < rounds k) : (ringRd m).duties (kcell (c, k)) r = duts k := by
  dsimp only [ringRd]; rw [kind_csem]; exact if_pos ⟨rfl, h⟩
theorem duties_end (c : Dev nD) (k : CK) (r : ℕ) (h : rounds k ≤ r) : (ringRd m).duties (kcell (c, k)) r = ∅ := by
  dsimp only [ringRd]; rw [kind_csem]; exact if_neg fun h' => absurd h'.2 (Nat.not_lt.mpr h)
theorem amount_cell (c : Dev nD) (k : CK) (r d : ℕ) : (ringRd m).amount (kcell (c, k)) r d = amt k := by
  dsimp only [ringRd]; rw [kind_csem]
theorem payload_cell (c : Dev nD) (k : CK) (r d : ℕ) : (ringRd m).payload (kcell (c, k)) r d = pay m c k r d := by
  dsimp only [ringRd]; rw [kind_csem]
theorem expect_cell (c : Dev nD) (k : CK) {r : ℕ} (h : r < rounds k) : (ringRd m).expect (kcell (c, k)) r = (duts k).card * amt k := by
  unfold Schedule.expect Schedule.amountOf
  rw [duties_cell m c k h, Finset.sum_congr rfl fun d _ => amount_cell m c k r d, Finset.sum_const, smul_eq_mul]

theorem rounds_rc (i : Fin 4) {s : ℕ} (hs : s < 15) : s / 4 < rounds (kRc i (slot (s + 1))) := by
  unfold rounds slot
  dsimp only
  split
  · rename_i h; have := congrArg Fin.val h; dsimp at this; omega
  · omega
theorem rounds_sd (i : Fin 4) {s : ℕ} (hs : s < 15) : s / 4 < rounds (kSd i (slot s)) := by
  unfold rounds slot
  dsimp only
  split
  · rename_i h; have := congrArg Fin.val h; dsimp at this; omega
  · omega

theorem duties_bar (c : Dev nD) : (ringRd m).duties (barCell c) 0 = {0, 1} := duties_cell m c kBar Nat.one_pos
theorem duties_cr (c : Dev nD) (i : Fin 4) : (ringRd m).duties (crCell c i) 0 = Finset.range 12 := duties_cell m c (kCr i) Nat.one_pos
theorem duties_sd (c : Dev nD) (i : Fin 4) {s : ℕ} (hs : s < 15) : (ringRd m).duties (sdCell c i (slot s)) (s / 4) = {0} :=
  duties_cell m c (kSd i (slot s)) (rounds_sd i hs)
theorem duties_rc (c : Dev nD) (i : Fin 4) {s : ℕ} (hs : s < 15) : (ringRd m).duties (rcCell c i (slot (s + 1))) (s / 4) = {0} :=
  duties_cell m c (kRc i (slot (s + 1))) (rounds_rc i hs)
theorem amount_bar (c : Dev nD) (r d : ℕ) : (ringRd m).amount (barCell c) r d = 1 := amount_cell m c kBar r d
theorem amount_cr (c : Dev nD) (i : Fin 4) (r d : ℕ) : (ringRd m).amount (crCell c i) r d = 1 := amount_cell m c (kCr i) r d
theorem amount_sd (c : Dev nD) (i j : Fin 4) (r d : ℕ) : (ringRd m).amount (sdCell c i j) r d = N := amount_cell m c (kSd i j) r d
theorem amount_rc (c : Dev nD) (i j : Fin 4) (r d : ℕ) : (ringRd m).amount (rcCell c i j) r d = N := amount_cell m c (kRc i j) r d
theorem expect_bar (c : Dev nD) : (ringRd m).expect (barCell c) 0 = 2 :=
  (expect_cell m c kBar Nat.one_pos).trans (by unfold duts amt; rfl)
theorem expect_cr (c : Dev nD) (i : Fin 4) : (ringRd m).expect (crCell c i) 0 = 12 :=
  (expect_cell m c (kCr i) Nat.one_pos).trans (by unfold duts amt; rfl)
theorem expect_sd (c : Dev nD) (i : Fin 4) {s : ℕ} (hs : s < 15) : (ringRd m).expect (sdCell c i (slot s)) (s / 4) = N :=
  (expect_cell m c (kSd i (slot s)) (rounds_sd i hs)).trans (Nat.one_mul N)
theorem expect_rc (c : Dev nD) (i : Fin 4) {s : ℕ} (hs : s < 15) : (ringRd m).expect (rcCell c i (slot (s + 1))) (s / 4) = N :=
  (expect_cell m c (kRc i (slot (s + 1))) (rounds_rc i hs)).trans (Nat.one_mul N)
theorem payload_bar (c : Dev nD) (r d : ℕ) : (ringRd m).payload (barCell c) r d = barPay c d := payload_cell m c kBar r d
theorem payload_cr (c : Dev nD) (i : Fin 4) (r d : ℕ) : (ringRd m).payload (crCell c i) r d = reached EM ((c, i) : MK) (d + 1) :=
  payload_cell m c (kCr i) r d
theorem payload_sd (c : Dev nD) (i j : Fin 4) (r d : ℕ) : (ringRd m).payload (sdCell c i j) r d = slotAny c i j :=
  payload_cell m c (kSd i j) r d
theorem payload_rc (c : Dev nD) (i : Fin 4) (s d : ℕ) :
    (ringRd m).payload (rcCell c i (slot (s + 1))) (s / 4) d = slotHas c i (slot (s + 1)) (msg m i s (up i c)) := by
  refine (payload_cell m c (kRc i (slot (s + 1))) (s / 4) d).trans ?_
  show slotHas c i (slot (s + 1)) (msg m i (4 * (s / 4) + ((s + 1) % 4 + 3) % 4) (up i c)) = _
  rw [show 4 * (s / 4) + ((s + 1) % 4 + 3) % 4 = s from by omega]

/-- What the wait for a message gives, -/
theorem rest_rc (c : Dev nD) (i : Fin 4) {s : ℕ} (hs : s < 15) :
    bigSep ((ringRd m).duties (rcCell c i (slot (s + 1))) (s / 4) \ ∅) (fun d => (ringRd m).payload (rcCell c i (slot (s + 1))) (s / 4) d)
      = slotHas c i (slot (s + 1)) (msg m i s (up i c)) := by
  rw [Finset.sdiff_empty, duties_rc m c i hs, bigSep_singleton, payload_rc]
/-- and the wait for a transfer to have left. -/
theorem rest_sd (c : Dev nD) (i : Fin 4) {s : ℕ} (hs : s < 15) :
    bigSep ((ringRd m).duties (sdCell c i (slot s)) (s / 4) \ ∅) (fun d => (ringRd m).payload (sdCell c i (slot s)) (s / 4) d)
      = slotAny c i (slot s) := by
  rw [Finset.sdiff_empty, duties_sd m c i hs, bigSep_singleton, payload_sd]

/-! ## The mailboxes -/

/-- Mailbox of device `c` on stream `i`: of the slots put there, each is still there or has been taken out. -/
def mail (ck : MK) : sProp 𝕄 :=
  iprop(∃ a : ℕ, roundAuth EM ck a ∅ 0 ∗ bigSep (Finset.range a) fun k => iprop(grant (F := F) ck.2 ck.1 (k + 3) ∨ dutyTok EM ck k 0))

instance mail_storable (ck : MK) : BI.Storable (upEmb : UEmb _ 𝕄) (mail (F := F) ck) := by
  unfold mail; infer_instance

/-! ## The levels -/

/-- A unit of a cell is named by the step at which it is sent. -/
def L (g : GSem nD τ sig) : Finset ℕ := if g.1.2 = .tc then Finset.range 16 else ∅
/-- The barrier is below every step, a step below the later ones; what a device pays itself is lowest. -/
def lv (g : GSem nD τ sig) (u : ℕ) : ℕ := match kind g.2 with
  | some (.inl _) => 1
  | some (.inr (.inl _)) => u + 2
  | some (.inr (.inr (.inr _))) => u + 2
  | _ => 0

theorem L_of_ne (g : GSem nD τ sig) (h : g.1.2 ≠ .tc) : L g = ∅ := if_neg h
theorem L_tc (c : Dev nD) (sm : SemLoc sig) : L ((c : Thread nD τ), sm) = Finset.range 16 := if_pos rfl
theorem lv_bar (c : Dev nD) (u : ℕ) : lv (barCell c) u = 1 := by unfold lv; rw [show kind (barCell c).2 = some kBar from kind_csem kBar]
theorem lv_cr (c : Dev nD) (i : Fin 4) (u : ℕ) : lv (crCell c i) u = u + 2 := by unfold lv; rw [show kind (crCell c i).2 = some (kCr i) from kind_csem (kCr i)]
theorem lv_sd (c : Dev nD) (i j : Fin 4) (u : ℕ) : lv (sdCell c i j) u = 0 := by unfold lv; rw [show kind (sdCell c i j).2 = some (kSd i j) from kind_csem (kSd i j)]
theorem lv_rc (c : Dev nD) (i j : Fin 4) (u : ℕ) : lv (rcCell c i j) u = u + 2 := by unfold lv; rw [show kind (rcCell c i j).2 = some (kRc i j) from kind_csem (kRc i j)]

/-- Everything owed lies above level `b`. -/
def Above (b : ℕ) (O : CellTallies nD τ sig ℕ) : Prop := ∀ (g : GSem nD τ sig) (u : ℕ), 0 < O g u → u ∈ L g ∧ b < lv g u

theorem Above.zero (b : ℕ) : Above b 0 := fun g u h => absurd h (Nat.lt_irrefl 0)
theorem Above.mono {b b' : ℕ} {O : CellTallies nD τ sig ℕ} (h : Above b' O) (hb : b ≤ b') : Above b O :=
  fun g u hg => ⟨(h g u hg).1, lt_of_le_of_lt hb (h g u hg).2⟩
theorem Above.add {b : ℕ} {O O' : CellTallies nD τ sig ℕ} (h : Above b O) (h' : Above b O') : Above b (O + O') := fun g u hg => by
  rw [Pi.add_apply, Finsupp.add_apply] at hg
  rcases Nat.eq_zero_or_pos (O g u) with h0 | h0
  · exact h' g u (by omega)
  · exact h g u h0
theorem Above.tally {b : ℕ} {g : GSem nD τ sig} {u n : ℕ} (hu : u ∈ L g) (hb : b < lv g u) : Above b (tallyAt g u n) := fun g' u' hg => by
  rw [tallyAt_apply] at hg
  by_cases h : g' = g ∧ u' = u
  · rw [h.1, h.2]; exact ⟨hu, hb⟩
  · rw [if_neg h] at hg; exact absurd hg (Nat.lt_irrefl 0)
theorem Above.sum {α : Type} {b : ℕ} {s : Finset α} {D : α → CellTallies nD τ sig ℕ} (h : ∀ a ∈ s, Above b (D a)) : Above b (∑ a ∈ s, D a) := by
  classical
  induction s using Finset.induction_on with
  | empty => rw [Finset.sum_empty]; exact Above.zero b
  | insert a s ha ih =>
    rw [Finset.sum_insert ha]
    exact (h a (Finset.mem_insert_self a s)).add (ih fun x hx => h x (Finset.mem_insert_of_mem hx))

theorem mayWait_of {c : Dev nD} {sm : SemLoc sig} {u b : ℕ} {O : CellTallies nD τ sig ℕ} (hu : u < 16)
    (hb : lv ((c : Thread nD τ), sm) u ≤ b) (hO : Above b O) :
    (levAts L lv : sProp 𝕄) ⊢ MayWait (c : Thread nD τ) sm u O :=
  MayOwe.of_cut (L := L) (lev := lv) b (fun p hp => by rw [Finset.mem_singleton.mp hp, L_tc]; exact Finset.mem_range.mpr hu)
    (fun g u hg => (hO g u hg).1) (fun p hp => by rw [Finset.mem_singleton.mp hp]; exact hb) (fun g u hg => (hO g u hg).2)

/-! ## What a device owes -/

/-- The units of message `t` of stream `i`, -/
def sdT (c : Dev nD) (i : Fin 4) (t : ℕ) : CellTallies nD τ sig ℕ := tallyAt (rcCell (dn i c) i (slot (t + 1))) t N
/-- and of credit `k`, sent at step `k + 1`. -/
def crT (c : Dev nD) (i : Fin 4) (k : ℕ) : CellTallies nD τ sig ℕ := tallyAt (crCell (up i c) i) (k + 1) 1

/-- What is owed after step `s`. -/
def oRest (c : Dev nD) (s : ℕ) : CellTallies nD τ sig ℕ :=
  ∑ i : Fin 4, (∑ t ∈ Finset.Ico (s + 1) 15, sdT c i t + ∑ k ∈ Finset.Ico s 12, crT c i k)
/-- What a stream pays at step `s + 1` after its message. -/
def crIf (c : Dev nD) (i : Fin 4) (s : ℕ) : CellTallies nD τ sig ℕ := if s < 12 then crT c i s else 0

theorem above_sdT (c : Dev nD) (i : Fin 4) {t b : ℕ} (ht : t < 15) (hb : b < t + 2) : Above b (sdT c i t) :=
  Above.tally (by rw [L_tc]; exact Finset.mem_range.mpr (by omega)) (by rw [lv_rc]; exact hb)
theorem above_crT (c : Dev nD) (i : Fin 4) {k b : ℕ} (hk : k < 12) (hb : b < k + 3) : Above b (crT c i k) :=
  Above.tally (by rw [L_tc]; exact Finset.mem_range.mpr (by omega)) (by rw [lv_cr]; omega)
theorem above_crIf (c : Dev nD) (i : Fin 4) {k b : ℕ} (hb : b < k + 3) : Above b (crIf c i k) := by
  unfold crIf
  split
  · exact above_crT c i (by assumption) hb
  · exact Above.zero b
theorem above_oRest (c : Dev nD) {s b : ℕ} (hb : b < s + 3) : Above b (oRest c s) :=
  Above.sum fun i _ => (Above.sum fun t ht => by
      have := Finset.mem_Ico.mp ht; exact above_sdT c i (by omega) (by omega)).add
    (Above.sum fun k hk => by have := Finset.mem_Ico.mp hk; exact above_crT c i (by omega) (by omega))

theorem Ico_head {a b : ℕ} (h : a < b) : Finset.Ico a b = insert a (Finset.Ico (a + 1) b) := by
  ext x; simp only [Finset.mem_Ico, Finset.mem_insert]; omega
theorem Ico_head_notMem {a b : ℕ} : a ∉ Finset.Ico (a + 1) b := fun h => absurd (Finset.mem_Ico.mp h).1 (by omega)
theorem sum_Ico_head {A : Type*} [AddCommMonoid A] {a b : ℕ} (h : a < b) (f : ℕ → A) :
    ∑ k ∈ Finset.Ico a b, f k = f a + ∑ k ∈ Finset.Ico (a + 1) b, f k := by
  rw [Ico_head h, Finset.sum_insert Ico_head_notMem]

theorem oRest_succ (c : Dev nD) {s : ℕ} (hs : s < 14) :
    oRest c s = oRest c (s + 1) + crIf c 3 s + sdT c 3 (s + 1) + crIf c 2 s + sdT c 2 (s + 1)
      + crIf c 1 s + sdT c 1 (s + 1) + crIf c 0 s + sdT c 0 (s + 1) := by
  have h1 (i : Fin 4) : ∑ t ∈ Finset.Ico (s + 1) 15, sdT c i t = sdT c i (s + 1) + ∑ t ∈ Finset.Ico (s + 1 + 1) 15, sdT c i t :=
    sum_Ico_head (by omega) _
  have h2 (i : Fin 4) : ∑ k ∈ Finset.Ico s 12, crT c i k = crIf c i s + ∑ k ∈ Finset.Ico (s + 1) 12, crT c i k := by
    unfold crIf
    split
    · exact sum_Ico_head (by assumption) _
    · rw [Finset.Ico_eq_empty (by omega), Finset.Ico_eq_empty (by omega), zero_add]
  unfold oRest
  simp only [Fin.sum_univ_four, h1, h2]
  ac_rfl

theorem oRest_end (c : Dev nD) : oRest c 14 = 0 := by
  unfold oRest
  rw [Finset.Ico_eq_empty (by decide), Finset.Ico_eq_empty (by decide)]
  simp only [Finset.sum_empty, add_zero, Finset.sum_const_zero]

/-- What a device owes after the barrier, -/
def O₁ (c : Dev nD) : CellTallies nD τ sig ℕ := oRest c 0 + sdT c 3 0 + sdT c 2 0 + sdT c 1 0 + sdT c 0 0
/-- and at launch. -/
def O₀ (c : Dev nD) : CellTallies nD τ sig ℕ := O₁ c + tallyAt (barCell (rt c)) 0 1 + tallyAt (barCell (lf c)) 0 1

theorem above_O₁ (c : Dev nD) : Above 1 (O₁ c) := by
  unfold O₁
  exact ((((above_oRest c (by omega)).add (above_sdT c 3 (by omega) (by omega))).add (above_sdT c 2 (by omega) (by omega))).add
    (above_sdT c 1 (by omega) (by omega))).add (above_sdT c 0 (by omega) (by omega))
theorem above_O₀ (c : Dev nD) : Above 0 (O₀ c) := by
  unfold O₀
  refine (((above_O₁ c).mono (by omega)).add (Above.tally ?_ ?_)).add (Above.tally ?_ ?_)
  · rw [L_tc]; exact Finset.mem_range.mpr (by omega)
  · rw [lv_bar]; omega
  · rw [L_tc]; exact Finset.mem_range.mpr (by omega)
  · rw [lv_bar]; omega

end Cert.KernelIdeal.Ring

end
-- ==== Proof.Ring.lean ====
/-
  One operation of the ring at a time: the waits, the transfers and the credits, under the protocol.
-/
module

public import proofs.«01_k».proof.Proof.Protocol

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## What every device knows -/

variable (K : Dev nD × CK → ℕ) (KM : MK → ℕ)

/-- The cells' invariants, the mailboxes', that every cell is at round 0 or later, and the levels. -/
def recs : sProp 𝕄 :=
  iprop((bigSep Finset.univ fun ck => cellInv ER (ringRd m) (K ck) (kcell ck)) ∗ (bigSep Finset.univ fun ck => inv (KM ck) (mail (F := F) ck))
    ∗ (bigSep Finset.univ fun ck : Dev nD × CK => reached ER (kcell ck) 0) ∗ levAts L lv)

instance recs_persistent : BI.Persistent (recs m K KM) := by unfold recs; infer_instance

theorem recs_inv (ck : Dev nD × CK) : recs m K KM ⊢ cellInv ER (ringRd m) (K ck) (kcell ck) := by
  unfold recs
  iintro ⟨#H, -⟩
  iapply (bigSep_elim' (Finset.mem_univ ck)) $$ H
theorem recs_mail (ck : MK) : recs m K KM ⊢ inv (KM ck) (mail (F := F) ck) := by
  unfold recs
  iintro ⟨-, #H, -⟩
  iapply (bigSep_elim' (Finset.mem_univ ck)) $$ H
theorem recs_reached (ck : Dev nD × CK) : recs m K KM ⊢ reached ER (kcell ck) 0 := by
  unfold recs
  iintro ⟨-, -, #H, -⟩
  iapply (bigSep_elim' (Finset.mem_univ ck)) $$ H
theorem recs_lev : recs m K KM ⊢ (levAts L lv : sProp 𝕄) := by
  unfold recs
  iintro ⟨-, -, -, #H⟩
  iexact H

/-- What a device owes, whatever it has waited for. -/
def ow (c : Dev nD) (O : CellTallies nD τ sig ℕ) : sProp 𝕄 := iprop(∃ W, owes (c : Thread nD τ) O W)

/-! ## The mailboxes -/

theorem mail_put (κ : ℕ) (i : Fin 4) (p : Dev nD) (k : ℕ) :
    iprop(inv κ (mail (F := F) (p, i)) ∗ atPos EM ((p, i) : MK) k ∅ 0 ∗ grant (F := F) i p (k + 3))
      ⊢ |={Set.univ}=> (atPos EM ((p, i) : MK) (k + 1) ∅ 0 ∗ reached EM ((p, i) : MK) (k + 1)) := by
  iintro ⟨#HI, Hat, Hg⟩
  imod (inv_acc (Set.mem_univ κ)) $$ HI with ⟨Hb, Hclose⟩
  unfold mail
  icases Hb with ⟨%a, Hau, Hs⟩
  icombine Hau Hat gives %hh
  obtain ⟨rfl, -, -⟩ := hh
  imod (roundAuth_atPos_move EM (k + 1) ∅ 0 (Nat.le_succ k)) $$ [Hau Hat] with ⟨Hau, Hat⟩
  · isplitl [Hau] <;> iassumption
  imod (roundAuth_witness EM) $$ Hau with ⟨Hau, Hr⟩
  imod Hclose $$ [Hau Hs Hg]
  · iexists (k + 1)
    isplitl [Hau]; · iexact Hau
    rw [bigSep_range_succ]
    isplitl [Hg]; · ileft; iexact Hg
    iexact Hs
  imodintro
  isplitl [Hat] <;> iassumption

theorem mail_take (κ : ℕ) (i : Fin 4) (c : Dev nD) (k : ℕ) :
    iprop(inv κ (mail (F := F) (c, i)) ∗ reached EM ((c, i) : MK) (k + 1) ∗ dutyTok EM ((c, i) : MK) k 0)
      ⊢ |={Set.univ}=> grant (F := F) i c (k + 3) := by
  iintro ⟨#HI, Hr, Htok⟩
  imod (inv_acc (Set.mem_univ κ)) $$ HI with ⟨Hb, Hclose⟩
  unfold mail
  icases Hb with ⟨%a, Hau, Hs⟩
  icombine Hau Hr gives %hh
  have hk : k ∈ Finset.range a := Finset.mem_range.mpr hh
  ihave Hs := (Entails.of_eq (bigSep_erase' hk (fun k => iprop(grant (F := F) i c (k + 3) ∨ dutyTok EM ((c, i) : MK) k 0)))) $$ Hs
  icases Hs with ⟨Hk, Hs⟩
  icases Hk with (Hk | Hk)
  · imod Hclose $$ [Hau Hs Htok]
    · iexists a
      isplitl [Hau]; · iexact Hau
      iapply (Entails.of_eq (bigSep_erase' hk (fun k => iprop(grant (F := F) i c (k + 3) ∨ dutyTok EM ((c, i) : MK) k 0))).symm)
      isplitl [Htok]; · iright; iexact Htok
      iexact Hs
    imodintro
    iexact Hk
  · iexfalso
    iapply (dutyTok_dutyTok_false EM)
    isplitl [Hk]; · iexact Hk
    iexact Htok

/-! ## The operations -/

section Ops

variable (c : Dev nD) (i : Fin 4)

/-- A program of the device run to `Q`. -/
abbrev wpc (k : BProg F) (Q : PUnit.{1} → sProp 𝕄) : sProp 𝕄 := wp frame (wpE (defs₀ (F := F)) 𝒱₀ (c : Thread nD τ) none) Set.univ k Q

theorem waitEq (j j' : Fin 4) (sm : DmaSem sig) {h h'} (Kt : PUnit.{1} → sProp 𝕄) :
    wpE (defs₀ (F := F)) 𝒱₀ (c : Thread nD τ) none Set.univ (.waitDma2 sm (slotV (cm i) j') (slotV (cm i) j) h h') Kt
      = waitSpec (c : Thread nD τ) Set.univ (.dma sm) N Kt :=
  (wpE_waitDma2_eq 𝒱₀ (c : Thread nD τ) none Set.univ Kt).trans (by rw [credit_slot])

/-- The wait for message `s` of the stream. -/
theorem wp_recv {Q : PUnit.{1} → sProp 𝕄} (k : BProg F) {s : ℕ} (hs : s < 15) {O : CellTallies nD τ sig ℕ} (hO : Above (s + 2) O) (j' : Fin 4) :
    iprop(recs m K KM ∗ cred (tallyAt (rcCell c i (slot (s + 1))) s N) ∗ ow c O ∗ atPos ER (rcCell c i (slot (s + 1))) (s / 4) ∅ 0)
      ⊢ iprop(((ow c O ∗ atPos ER (rcCell c i (slot (s + 1))) (s / 4 + 1) ∅ 0 ∗ reached ER (rcCell c i (slot (s + 1))) (s / 4 + 1)
            ∗ slotHas c i (slot (s + 1)) (msg m i s (up i c))) -∗ wpc c k Q)
          -∗ wpc c (waitRecvC cm rs i (slot (s + 1)) j' k) Q) := by
  unfold ow waitRecvC
  iintro ⟨#HR, Hc, ⟨%W, HO⟩, Hat⟩ Hk
  iapply (Rounds.wp_wait_rest_token 𝒱₀ ER (ringRd m) (c : Thread nD τ) none (κ := K (c, kRc i (slot (s + 1)))) (k' := N)
      (waitEq c i _ j' _) (Set.mem_univ _) s (O := O) (W := W) (R := s / 4) (m := 0) (T := ∅)
      (by rw [Nat.zero_add]; exact (expect_rc m c i hs).symm)) $$ [Hc HO Hat]
  · isplitr; · iapply (recs_inv m K KM (c, kRc i (slot (s + 1)))); iexact HR
    isplitl [Hc]; · iexact Hc
    isplitl [HO]; · iexact HO
    isplitr
    · iapply (mayWait_of (by omega) (le_of_eq (lv_rc c i (slot (s + 1)) s)) hO)
      iapply (recs_lev m K KM); iexact HR
    iexact Hat
  iintro ⟨HO, Hat, Hr, Hpay⟩
  ihave Hp := (Entails.of_eq (rest_rc m c i hs)) $$ Hpay
  iapply Hk
  isplitl [HO]; · iexists _; iexact HO
  isplitl [Hat]; · iexact Hat
  isplitl [Hr] <;> iassumption

/-- The wait for the transfer of message `s` to have left its slot. -/
theorem wp_sent {Q : PUnit.{1} → sProp 𝕄} (k : BProg F) {s : ℕ} (hs : s < 15) {O : CellTallies nD τ sig ℕ} (hO : Above 0 O) (j' : Fin 4) :
    iprop(recs m K KM ∗ cred (tallyAt (sdCell c i (slot s)) 0 N) ∗ ow c O ∗ atPos ER (sdCell c i (slot s)) (s / 4) ∅ 0)
      ⊢ iprop(((ow c O ∗ atPos ER (sdCell c i (slot s)) (s / 4 + 1) ∅ 0 ∗ reached ER (sdCell c i (slot s)) (s / 4 + 1)
            ∗ slotAny (F := F) c i (slot s)) -∗ wpc c k Q)
          -∗ wpc c (waitSendC cm ss i (slot s) j' k) Q) := by
  unfold ow waitSendC
  iintro ⟨#HR, Hc, ⟨%W, HO⟩, Hat⟩ Hk
  iapply (Rounds.wp_wait_rest_token 𝒱₀ ER (ringRd m) (c : Thread nD τ) none (κ := K (c, kSd i (slot s))) (k' := N)
      (waitEq c i _ j' _) (Set.mem_univ _) 0 (O := O) (W := W) (R := s / 4) (m := 0) (T := ∅)
      (by rw [Nat.zero_add]; exact (expect_sd m c i hs).symm)) $$ [Hc HO Hat]
  · isplitr; · iapply (recs_inv m K KM (c, kSd i (slot s))); iexact HR
    isplitl [Hc]; · iexact Hc
    isplitl [HO]; · iexact HO
    isplitr
    · iapply (mayWait_of (by omega) (le_of_eq (lv_sd c i (slot s) 0)) hO)
      iapply (recs_lev m K KM); iexact HR
    iexact Hat
  iintro ⟨HO, Hat, Hr, Hpay⟩
  ihave Hp := (Entails.of_eq (rest_sd m c i hs)) $$ Hpay
  iapply Hk
  isplitl [HO]; · iexists _; iexact HO
  isplitl [Hat]; · iexact Hat
  isplitl [Hr]; · iexact Hr
  iexact Hp

/-- The transfer of message `t`. -/
theorem wp_msg {Q : PUnit.{1} → sProp 𝕄} (k : BProg F) {t : ℕ} (ht : t < 15) (O : CellTallies nD τ sig ℕ) :
    iprop(recs m K KM ∗ slotHas c i (slot t) (msg m i t c) ∗ grant (F := F) i c t ∗ ow c (O + sdT c i t)
        ∗ dutyTok ER (sdCell c i (slot t)) (t / 4) 0 ∗ reached ER (sdCell c i (slot t)) (t / 4)
        ∗ dutyTok ER (rcCell (dn i c) i (slot (t + 1))) (t / 4) 0)
      ⊢ iprop(((cred (tallyAt (sdCell c i (slot t)) 0 N) ∗ ow c O) -∗ wpc c k Q)
          -∗ wpc c (sendC cm ss rs c i (slot t) (slot (t + 1)) k) Q) := by
  unfold ow sendC slotHas grant slotAny slotPts
  iintro ⟨#HR, ⟨%fs, %hfs, Hsrc⟩, ⟨⟨%fd, Hdst⟩, Hrd⟩, ⟨%W, HO⟩, Hts, Hrs, Htd⟩ Hk
  iapply (Rounds.wp_send_pointsTo 𝒱₀ ER (ringRd m) (c : Thread nD τ) none (κ₁ := K (c, kSd i (slot t)))
    (κ₂ := K (dn i c, kRc i (slot (t + 1)))) (r₁ := t / 4) (r₂ := t / 4) (d₁ := 0) (d₂ := 0) (fs := fs) (fd := fd)
    (sem := .dma (semV (rs i) (slot (t + 1)))) (by rw [duties_sd m c i ht]; exact Finset.mem_singleton_self _)
    (by rw [duties_rc m (dn i c) i ht]; exact Finset.mem_singleton_self _)
    t 0 N (credit_slot i (slot (t + 1))) (amount_sd m c i _ _ _) (amount_rc m (dn i c) i _ _ _) O rfl (W := W)
    (by
      rw [payload_sd]
      unfold slotAny slotPts
      iintro H; iexists fs; iexact H)
    (by
      rw [payload_rc, up_dn]
      unfold slotHas slotPts
      iintro H
      iexists ((slotV (cm i) (slot (t + 1))).view.write (Elt F) fd ((slotV (cm i) (slot t)).view.read (Elt F) fs) Finset.univ)
      isplitr
      · ipureintro
        exact (View.read_write_univ _ _).trans hfs
      iexact H)) $$ [Hsrc Hdst HO Hts Hrs Htd Hrd]
  · isplitr; · iapply (recs_inv m K KM (c, kSd i (slot t))); iexact HR
    isplitr; · iapply (recs_inv m K KM (dn i c, kRc i (slot (t + 1)))); iexact HR
    isplitl [Hsrc]; · iexact Hsrc
    isplitl [Hdst]; · iexact Hdst
    isplitl [HO]; · iexact HO
    isplitl [Hts]; · iexact Hts
    isplitl [Hrs]; · iexact Hrs
    isplitl [Htd] <;> iassumption
  iintro ⟨Hc, HO⟩
  iapply Hk
  isplitl [Hc]; · iexact Hc
  iexists W; iexact HO

/-- Credit `n`: the slot put in the mailbox, then the signal. -/
theorem wp_credit {Q : PUnit.{1} → sProp 𝕄} (k : BProg F) {n : ℕ} (hn : n < 12) (O : CellTallies nD τ sig ℕ) :
    iprop(recs m K KM ∗ atPos EM ((up i c, i) : MK) n ∅ 0 ∗ grant (F := F) i (up i c) (n + 3) ∗ ow c (O + crT c i n)
        ∗ dutyTok ER (crCell (up i c) i) 0 n)
      ⊢ iprop(((atPos EM ((up i c, i) : MK) (n + 1) ∅ 0 ∗ ow c O) -∗ wpc c k Q) -∗ wpc c (creditC cr c i k) Q) := by
  unfold ow creditC
  iintro ⟨#HR, Hat, Hg, ⟨%W, HO⟩, Ht⟩ Hk
  imod (mail_put (KM (up i c, i)) i (up i c) n) $$ [Hat Hg] with ⟨Hat, Hw⟩
  · isplitr; · iapply (recs_mail m K KM (up i c, i)); iexact HR
    isplitl [Hat] <;> iassumption
  iapply (Rounds.wp_signal 𝒱₀ ER (ringRd m) (c : Thread nD τ) none (dst := (up i c : Thread nD τ)) (κ := K (up i c, kCr i)) (r := 0) (d := n)
      (by rw [duties_cr]; exact Finset.mem_range.mpr hn)
      ((amount_cr m (up i c) i 0 n).trans (by decide)) (n + 1) O rfl) $$ [HO Ht Hw]
  · isplitr; · iapply (recs_inv m K KM (up i c, kCr i)); iexact HR
    isplitl [HO]; · iexact HO
    isplitl [Ht]; · iexact Ht
    isplitl [Hw]
    · iapply (Entails.of_eq (payload_cr m (up i c) i 0 n).symm)
      iexact Hw
    iapply (recs_reached m K KM (up i c, kCr i)); iexact HR
  iintro HO
  iapply Hk
  isplitl [Hat]; · iexact Hat
  iexists W; iexact HO

/-- Where a device is on its credit cell after `n` waits. -/
def crPos (n : ℕ) : sProp 𝕄 :=
  iprop(∃ T : Finset ℕ, ⌜T ⊆ Finset.range 12 ∧ n ≤ T.card⌝ ∗ atPos ER (crCell c i) 0 T n
    ∗ bigSep T fun d => reached EM ((c, i) : MK) (d + 1))

/-- The wait for a credit, and the slot taken out of the mailbox. -/
theorem wp_waitCredit {Q : PUnit.{1} → sProp 𝕄} (k : BProg F) {n : ℕ} (hn : n < 12) {O : CellTallies nD τ sig ℕ} (hO : Above (n + 3) O) :
    iprop(recs m K KM ∗ crPos (F := F) c i n ∗ cred (tallyAt (crCell c i) (n + 1) 1) ∗ ow c O ∗ dutyTok EM ((c, i) : MK) n 0)
      ⊢ iprop(((crPos (F := F) c i (n + 1) ∗ ow c O ∗ grant (F := F) i c (n + 3)) -∗ wpc c k Q) -∗ wpc c (waitCreditC cr i k) Q) := by
  unfold ow waitCreditC
  iintro ⟨#HR, Hpos, Hc, ⟨%W, HO⟩, Htok⟩ Hk
  unfold crPos
  icases Hpos with ⟨%T, %hT, Hat, #HT⟩
  iapply (Rounds.wp_wait 𝒱₀ ER (ringRd m) (c : Thread nD τ) none (κ := K (c, kCr i)) (k' := 1)
      (wpE_semWait_eq 𝒱₀ (c : Thread nD τ) none Set.univ) (Set.mem_univ _) (cr := Finsupp.single (n + 1) 1) (O := O) (W := W)
      {(SemLoc.reg (cr i).sem, n + 1)} (R := 0) (m := n) (T := T) (by rw [Util.total_single]) (image_single_subset _ _ _)) $$ [Hc HO Hat]
  · isplitr; · iapply (recs_inv m K KM (c, kCr i)); iexact HR
    isplitl [Hc]; · iexact Hc
    isplitl [HO]; · iexact HO
    isplitr
    · iapply (mayWait_of (by omega) (le_of_eq (lv_cr c i (n + 1))) hO)
      iapply (recs_lev m K KM); iexact HR
    iexact Hat
  iintro %S ⟨%hS, HO, Hat, Hpay⟩
  obtain ⟨hTS, hSd, hcard⟩ := hS
  have hd : (ringRd m).duties (crCell c i) 0 = Finset.range 12 := duties_cr m c i
  have he : (ringRd m).expect (crCell c i) 0 = 12 := expect_cr m c i
  have hS12 : S ⊆ Finset.range 12 := hd ▸ hSd
  have hcS : n + 1 ≤ S.card := by
    have h1 : n + 1 + (Finset.range 12 \ S).card ≤ 12 := by rw [← hd, ← he]; exact hcard
    have h2 : (Finset.range 12 \ S).card + S.card = (Finset.range 12).card := Finset.card_sdiff_add_card_eq_card hS12
    rw [Finset.card_range] at h2
    omega
  have hpay : (bigSep (S \ T) fun d => (ringRd m).payload (crCell c i) 0 d) = bigSep (S \ T) fun d => reached EM ((c, i) : MK) (d + 1) :=
    bigSep_congr fun d _ => payload_cr m c i 0 d
  ihave #HS := (Entails.of_eq hpay) $$ Hpay
  ihave #HSall : (bigSep S fun d => reached EM ((c, i) : MK) (d + 1)) $$ []
  · iapply (Entails.of_eq (show iprop((bigSep (S \ T) fun d => (reached EM ((c, i) : MK) (d + 1) : sProp 𝕄)) ∗ bigSep T fun d => reached EM ((c, i) : MK) (d + 1)) = _ by
      rw [← bigSep_union' Finset.sdiff_disjoint, Finset.sdiff_union_of_subset hTS]))
    isplitr; · iexact HS
    iexact HT
  obtain ⟨d, hdS, hdn⟩ : ∃ d ∈ S, n ≤ d := by
    by_contra hne
    have : S ⊆ Finset.range n := fun d hd => Finset.mem_range.mpr (Nat.lt_of_not_le fun h => hne ⟨d, hd, h⟩)
    have := Finset.card_le_card this
    rw [Finset.card_range] at this
    omega
  imod (mail_take (KM (c, i)) i c n) $$ [Htok] with Hg
  · isplitr; · iapply (recs_mail m K KM (c, i)); iexact HR
    isplitr
    · iapply (reached_mono EM (show n + 1 ≤ d + 1 by omega))
      iapply (bigSep_elim' hdS (Φ := fun d => (reached EM ((c, i) : MK) (d + 1) : sProp 𝕄)))
      iexact HSall
    iexact Htok
  iapply Hk
  isplitl [Hat]
  · iexists S
    isplitr; · ipureintro; exact ⟨hS12, hcS⟩
    isplitl [Hat]; · iexact Hat
    iexact HSall
  isplitl [HO]; · iexists _; iexact HO
  iexact Hg

end Ops

end Cert.KernelIdeal.Ring

end
-- ==== Proof.Stream.lean ====
/-
  What one stream of one device holds between the steps of the ring, and its steps: the first (`wp_first`), any
  later one (`wp_next`) and the last receipt (`wp_fin`), each at a symbolic device, stream and step.
-/
module

public import proofs.«01_k».proof.Proof.Ring
public import Idealize.ShloMosaic.Lib.Pipeline.Value

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (KM : MK → ℕ)

/-! ## Loads and stores of a slot -/

theorem set_slot (i j : Fin 4) : (slotV (cm i) j).view.set = ((cm i).access (slotR j)).set := View.set_reshape _ _

theorem setOn_slot (i j : Fin 4) : (cm i).view.setOn (slotR j).set ⊆ (slotV (cm i) j).view.set := by
  rw [set_slot, View.set_slice]; exact Finset.Subset.refl _

theorem wp_loadSlot {Q : PUnit.{1} → sProp 𝕄} (c : Dev nD) (i j : Fin 4) (u : IVec S256x512 32) (k : Vec F S1x256x512 .i32 → BProg F) :
    slotHas c i j u
      ⊢ iprop((∀ v, (⌜ofSlot (F := F) v = u⌝ ∗ slotHas c i j u) -∗ wpc c (k v) Q) -∗ wpc c (loadC cm i j k) Q) := by
  unfold slotHas slotPts loadC
  iintro ⟨%f, %hf, H⟩ Hk
  iapply (wp_load 𝒱₀ (c : Thread nD τ) none Set.univ (m := cm i) (S := (slotV (cm i) j).view.set) (setOn_slot i j)) $$ H
  iintro H
  iapply Hk
  isplitr; · ipureintro; exact hf
  iexists f
  isplitr; · ipureintro; exact hf
  iexact H

theorem wp_storeSlot {Q : PUnit.{1} → sProp 𝕄} (c : Dev nD) (i j : Fin 4) (u : IVec S256x512 32) (k : BProg F) :
    slotAny (F := F) c i j
      ⊢ iprop((slotHas c i j u -∗ wpc c k Q) -∗ wpc c (storeC cm i j (asSlot u) k) Q) := by
  unfold slotHas slotAny slotPts storeC
  iintro ⟨%f, H⟩ Hk
  iapply (wp_store 𝒱₀ (c : Thread nD τ) none Set.univ (m := cm i) (r := slotR j) (Mk := Finset.univ) (S := (slotV (cm i) j).view.set)
    (by rw [View.setOn_univ, set_slot])) $$ H
  iintro H
  iapply Hk
  iexists (((cm i).access (slotR j)).write (Elt F) f (asSlot u) Finset.univ)
  isplitr
  · ipureintro
    show shapeCast S256x512 (((cm i).access (slotR j)).read (Elt F) (((cm i).access (slotR j)).write (Elt F) f (asSlot u) Finset.univ))
      shapeCasts_S1x256x512_S256x512 = u
    rw [View.read_write_univ]
    exact shapeCast_shapeCast _ _ _
  iexact H

theorem slotHas_any (c : Dev nD) (i j : Fin 4) (u : IVec S256x512 32) : slotHas c i j u ⊢ slotAny (F := F) c i j := by
  unfold slotHas slotAny
  iintro ⟨%f, -, H⟩
  iexists f; iexact H

theorem slotAny_has (c : Dev nD) (i j : Fin 4) : slotAny (F := F) c i j ⊢ iprop(∃ u, slotHas c i j u) := by
  unfold slotHas slotAny
  iintro ⟨%f, H⟩
  iexists ((slotV (cm i) j).view.read (Elt F) f)
  iexists f
  isplitr; · ipureintro; rfl
  iexact H

/-! ## Rounds -/

/-- How many messages have been received in slot `j` of a stream before message `s`, -/
def rR (j : Fin 4) (s : ℕ) : ℕ := (s + 3 - (j.val + 3) % 4) / 4
/-- and how many sent from it. -/
def rS (j : Fin 4) (s : ℕ) : ℕ := (s + 3 - j.val) / 4

theorem rR_at (s : ℕ) : rR (slot (s + 1)) s = s / 4 := by unfold rR slot; dsimp only; omega
theorem rR_at' (s : ℕ) : rR (slot (s + 1)) (s + 1) = s / 4 + 1 := by unfold rR slot; dsimp only; omega
theorem rR_ne {s : ℕ} {j : Fin 4} (h : j ≠ slot (s + 1)) : rR j s = rR j (s + 1) := by
  have h' : j.val ≠ (s + 1) % 4 := fun e => h (Fin.ext e)
  have := j.isLt
  unfold rR; omega
theorem rR_back (s : ℕ) : rR (slot s) (s + 1) = (s + 3) / 4 := by unfold rR slot; dsimp only; omega
theorem rS_at (s : ℕ) : rS (slot s) s = s / 4 := by unfold rS slot; dsimp only; omega
theorem rS_at' (s : ℕ) : rS (slot s) (s + 1) = s / 4 + 1 := by unfold rS slot; dsimp only; omega
theorem rS_ne {s : ℕ} {j : Fin 4} (h : j ≠ slot s) : rS j s = rS j (s + 1) := by
  have h' : j.val ≠ s % 4 := fun e => h (Fin.ext e)
  have := j.isLt
  unfold rS; omega

/-- One of four exchanged. -/
theorem swap_at {A B : Fin 4 → sProp 𝕄} (j : Fin 4) (h : ∀ j', j' ≠ j → A j' = B j') :
    bigSep Finset.univ A ⊢ iprop(A j ∗ (B j -∗ bigSep Finset.univ B)) := by
  rw [bigSep_univ_at A j, bigSep_univ_at B j, bigSep_congr (Ψ := B) fun j' hj => h j' (Finset.ne_of_mem_erase hj)]
  iintro ⟨HA, HR⟩
  isplitl [HA]; · iexact HA
  iintro HB
  isplitl [HB] <;> iassumption

theorem peel {a b : ℕ} (h : a < b) (Φ : ℕ → sProp 𝕄) :
    bigSep (Finset.Ico a b) Φ = iprop(Φ a ∗ bigSep (Finset.Ico (a + 1) b) Φ) := by
  rw [Ico_head h, bigSep_insert' Ico_head_notMem]
theorem none_left {a b : ℕ} (h : b ≤ a) (Φ : ℕ → sProp 𝕄) : bigSep (Finset.Ico a b) Φ = iprop(emp) := by
  rw [Finset.Ico_eq_empty (by omega), bigSep_empty]; rfl

/-! ## What a stream holds -/

section State

variable (c : Dev nD) (i : Fin 4)

def posR (s : ℕ) : sProp 𝕄 :=
  bigSep Finset.univ fun j => iprop(atPos ER (rcCell c i j) (rR j s) ∅ 0 ∗ reached ER (rcCell c i j) (rR j s))
def posS (s : ℕ) : sProp 𝕄 :=
  bigSep Finset.univ fun j => iprop(atPos ER (sdCell c i j) (rS j s) ∅ 0 ∗ reached ER (sdCell c i j) (rS j s))
/-- The right to wait for the messages from `s` on. -/
def rcvC (s : ℕ) : sProp 𝕄 := bigSep (Finset.Ico s 15) fun t => cred (tallyAt (rcCell c i (slot (t + 1))) t N)
/-- The right to send the messages from `s` on. -/
def toks (s : ℕ) : sProp 𝕄 :=
  bigSep (Finset.Ico s 15) fun t => iprop(dutyTok ER (sdCell c i (slot t)) (t / 4) 0 ∗ dutyTok ER (rcCell (dn i c) i (slot (t + 1))) (t / 4) 0)
/-- The right to wait for the credits from `n` on, and to take their slots out of the mailbox. -/
def crdC (n : ℕ) : sProp 𝕄 :=
  bigSep (Finset.Ico n 12) fun n => iprop(cred (tallyAt (crCell c i) (n + 1) 1) ∗ dutyTok EM ((c, i) : MK) n 0)
/-- The right to give the credits from `n` on. -/
def payC (n : ℕ) : sProp 𝕄 := bigSep (Finset.Ico n 12) fun n => dutyTok ER (crCell (up i c) i) 0 n
/-- The grants handed over at the barrier, from message `t` on. -/
def held (t : ℕ) : sProp 𝕄 := bigSep (Finset.Ico t 3) fun t => grant (F := F) i c t
/-- The slots not given back any more. -/
def kept (s : ℕ) : sProp 𝕄 := bigSep (Finset.Ico 12 s) fun t => slotAny (F := F) c i (slot t)

/-- Before the first step. -/
def pst : sProp 𝕄 :=
  iprop(posR (F := F) c i 0 ∗ posS (F := F) c i 0 ∗ slotAny (F := F) c i (slot 0) ∗ rcvC (F := F) c i 0 ∗ toks (F := F) c i 0 ∗ crPos (F := F) c i 0
    ∗ crdC (F := F) c i 0 ∗ atPos EM ((up i c, i) : MK) 0 ∅ 0 ∗ payC (F := F) c i 0 ∗ held (F := F) c i 0)
/-- After step `s`, its message under way. -/
def sst (s : ℕ) : sProp 𝕄 :=
  iprop(posR (F := F) c i s ∗ posS (F := F) c i s ∗ cred (tallyAt (sdCell c i (slot s)) 0 N) ∗ rcvC (F := F) c i s ∗ toks (F := F) c i (s + 1)
    ∗ crPos (F := F) c i (s - 2) ∗ crdC (F := F) c i (s - 2) ∗ atPos EM ((up i c, i) : MK) (min s 12) ∅ 0 ∗ payC (F := F) c i s
    ∗ held (F := F) c i (s + 1) ∗ kept (F := F) c i s)
/-- After the last receipt: every cell at its end, the four slots back. -/
def fst : sProp 𝕄 :=
  iprop(posR (F := F) c i 15 ∗ posS (F := F) c i 15 ∗ crPos (F := F) c i 12 ∗ bigSep Finset.univ fun j => slotAny (F := F) c i j)

end State

/-! ## The steps -/

/-- The wait for the message of step `s`, and for the previous message to have left. -/
theorem wp_recvSent {Q : PUnit.{1} → sProp 𝕄} (c : Dev nD) (i : Fin 4) (k : BProg F) {s : ℕ} (hs : s < 15)
    {O : CellTallies nD τ sig ℕ} (hO : Above (s + 2) O) :
    iprop(recs m K KM ∗ posR (F := F) c i s ∗ posS (F := F) c i s ∗ cred (tallyAt (sdCell c i (slot s)) 0 N) ∗ rcvC (F := F) c i s ∗ ow c O)
      ⊢ iprop(((posR (F := F) c i (s + 1) ∗ posS (F := F) c i (s + 1) ∗ rcvC (F := F) c i (s + 1) ∗ ow c O
            ∗ slotHas c i (slot (s + 1)) (msg m i s (up i c)) ∗ slotAny (F := F) c i (slot s)) -∗ wpc c k Q)
          -∗ wpc c (waitRecvC cm rs i (slot (s + 1)) (slot s) <| waitSendC cm ss i (slot s) (slot (s + 1)) k) Q) := by
  iintro ⟨#HR, HpR, HpS, Hc, Hrc, HO⟩ Hk
  unfold posR posS rcvC
  ihave HpR := (swap_at (B := fun j => iprop(atPos ER (rcCell c i j) (rR j (s + 1)) ∅ 0 ∗ reached ER (rcCell c i j) (rR j (s + 1)))) (slot (s + 1))
    (fun j' h => by rw [rR_ne h])) $$ HpR
  ihave HpS := (swap_at (B := fun j => iprop(atPos ER (sdCell c i j) (rS j (s + 1)) ∅ 0 ∗ reached ER (sdCell c i j) (rS j (s + 1)))) (slot s)
    (fun j' h => by rw [rS_ne h])) $$ HpS
  icases HpR with ⟨⟨HaR, -⟩, HbR⟩
  icases HpS with ⟨⟨HaS, -⟩, HbS⟩
  ihave Hrc := (Entails.of_eq (peel hs _)) $$ Hrc
  icases Hrc with ⟨Hc0, Hrc⟩
  ihave HaR := (Entails.of_eq (congrArg (fun r => (atPos ER (rcCell c i (slot (s + 1))) r ∅ 0 : sProp 𝕄)) (rR_at s))) $$ HaR
  ihave HaS := (Entails.of_eq (congrArg (fun r => (atPos ER (sdCell c i (slot s)) r ∅ 0 : sProp 𝕄)) (rS_at s))) $$ HaS
  iapply (wp_recv m K KM c i _ hs hO (slot s)) $$ [HaR Hc0 HO]
  · isplitr; · iexact HR
    isplitl [Hc0]; · iexact Hc0
    isplitl [HO]; · iexact HO
    iexact HaR
  iintro ⟨HO, HaR, HrR, Hslot⟩
  iapply (wp_sent m K KM c i _ hs (hO.mono (Nat.zero_le _)) (slot (s + 1))) $$ [HaS Hc HO]
  · isplitr; · iexact HR
    isplitl [Hc]; · iexact Hc
    isplitl [HO]; · iexact HO
    iexact HaS
  iintro ⟨HO, HaS, HrS, Hold⟩
  iapply Hk
  isplitl [HaR HrR HbR]
  · iapply HbR
    rw [rR_at']
    isplitl [HaR] <;> iassumption
  isplitl [HaS HrS HbS]
  · iapply HbS
    rw [rS_at']
    isplitl [HaS] <;> iassumption
  isplitl [Hrc]; · iexact Hrc
  isplitl [HO]; · iexact HO
  isplitl [Hslot] <;> iassumption

/-- The grant of message `s + 1`: held since the barrier, or come with a credit. -/
theorem wp_optWait {Q : PUnit.{1} → sProp 𝕄} (c : Dev nD) (i : Fin 4) (k : BProg F) {s : ℕ} (hs : s < 14)
    {O : CellTallies nD τ sig ℕ} (hO : Above (s + 2) O) :
    iprop(recs m K KM ∗ crPos (F := F) c i (s - 2) ∗ crdC (F := F) c i (s - 2) ∗ held (F := F) c i (s + 1) ∗ ow c O)
      ⊢ iprop(((crPos (F := F) c i (s + 1 - 2) ∗ crdC (F := F) c i (s + 1 - 2) ∗ held (F := F) c i (s + 1 + 1) ∗ grant (F := F) i c (s + 1) ∗ ow c O)
            -∗ wpc c k Q)
          -∗ wpc c ((if 2 ≤ s then waitCreditC cr i else id) k) Q) := by
  by_cases h2 : 2 ≤ s
  · obtain ⟨n, rfl⟩ : ∃ n, s = n + 2 := ⟨s - 2, by omega⟩
    rw [if_pos h2, show n + 2 - 2 = n from rfl, show n + 2 + 1 - 2 = n + 1 from rfl]
    unfold crdC held
    rw [peel (show n < 12 by omega), none_left (show 3 ≤ n + 2 + 1 by omega), none_left (show 3 ≤ n + 2 + 1 + 1 by omega)]
    iintro ⟨#HR, Hp, ⟨⟨Hc0, Ht⟩, Hc⟩, Hh, HO⟩ Hk
    iapply (wp_waitCredit m K KM c i k (show n < 12 by omega) (hO.mono (by omega))) $$ [Hp Hc0 HO Ht]
    · isplitr; · iexact HR
      isplitl [Hp]; · iexact Hp
      isplitl [Hc0]; · iexact Hc0
      isplitl [HO] <;> iassumption
    iintro ⟨Hp, HO, Hg⟩
    iapply Hk
    isplitl [Hp]; · iexact Hp
    isplitl [Hc]; · iexact Hc
    isplitl [Hh]; · iexact Hh
    isplitl [Hg] <;> iassumption
  · rw [if_neg h2, show s - 2 = 0 by omega, show s + 1 - 2 = 0 by omega]
    unfold held
    rw [peel (show s + 1 < 3 by omega)]
    iintro ⟨#HR, Hp, Hc, ⟨Hg, Hh⟩, HO⟩ Hk
    iapply Hk
    isplitl [Hp]; · iexact Hp
    isplitl [Hc]; · iexact Hc
    isplitl [Hh]; · iexact Hh
    isplitl [Hg] <;> iassumption

/-- The slot of message `s` given back, or kept. -/
theorem wp_optCredit {Q : PUnit.{1} → sProp 𝕄} (c : Dev nD) (i : Fin 4) (k : BProg F) {s : ℕ}
    (O : CellTallies nD τ sig ℕ) :
    iprop(recs m K KM ∗ atPos EM ((up i c, i) : MK) (min s 12) ∅ 0 ∗ payC (F := F) c i s ∗ kept (F := F) c i s ∗ slotAny (F := F) c i (slot s)
        ∗ reached ER (rcCell c i (slot s)) ((s + 3) / 4) ∗ ow c (O + crIf c i s))
      ⊢ iprop(((atPos EM ((up i c, i) : MK) (min (s + 1) 12) ∅ 0 ∗ payC (F := F) c i (s + 1) ∗ kept (F := F) c i (s + 1) ∗ ow c O) -∗ wpc c k Q)
          -∗ wpc c ((if s < 12 then creditC cr c i else id) k) Q) := by
  unfold payC kept crIf
  by_cases h : s < 12
  · rw [if_pos h, if_pos h, show min s 12 = s by omega, show min (s + 1) 12 = s + 1 by omega, peel h,
      none_left (show s ≤ 12 by omega), none_left (show s + 1 ≤ 12 by omega)]
    iintro ⟨#HR, Hat, ⟨Ht, Hpay⟩, Hkept, Hs, Hr, HO⟩ Hk
    iapply (wp_credit m K KM c i k h O) $$ [Hat Hs Hr HO Ht]
    · isplitr; · iexact HR
      isplitl [Hat]; · iexact Hat
      isplitl [Hs Hr]
      · unfold grant
        rw [dn_up, show s + 3 + 1 = s + 4 from rfl, slot_add_four]
        isplitl [Hs] <;> iassumption
      isplitl [HO] <;> iassumption
    iintro ⟨Hat, HO⟩
    iapply Hk
    isplitl [Hat]; · iexact Hat
    isplitl [Hpay]; · iexact Hpay
    isplitl [Hkept]; · iexact Hkept
    iexact HO
  · rw [if_neg h, if_neg h, show min s 12 = 12 by omega, show min (s + 1) 12 = 12 by omega, add_zero,
      none_left (show 12 ≤ s by omega), none_left (show 12 ≤ s + 1 by omega)]
    iintro ⟨#HR, Hat, Hpay, Hkept, Hs, Hr, HO⟩ Hk
    iapply Hk
    isplitl [Hat]; · iexact Hat
    isplitl [Hpay]; · iexact Hpay
    isplitl [Hkept Hs]
    · rw [show Finset.Ico 12 (s + 1) = insert s (Finset.Ico 12 s) by ext x; simp only [Finset.mem_Ico, Finset.mem_insert]; omega,
        bigSep_insert' (by simp)]
      isplitl [Hs] <;> iassumption
    iexact HO

theorem reached_sd (c : Dev nD) (i : Fin 4) (s : ℕ) : posS (F := F) c i s ⊢ reached ER (sdCell c i (slot s)) (s / 4) := by
  unfold posS
  refine (bigSep_elim' (Finset.mem_univ (slot s))).trans ?_
  rw [rS_at]
  iintro ⟨-, H⟩
  iexact H
theorem reached_rc (c : Dev nD) (i : Fin 4) (s : ℕ) : posR (F := F) c i (s + 1) ⊢ reached ER (rcCell c i (slot s)) ((s + 3) / 4) := by
  unfold posR
  refine (bigSep_elim' (Finset.mem_univ (slot s))).trans ?_
  rw [rR_back]
  iintro ⟨-, H⟩
  iexact H

/-- Step `s + 1` of a stream. -/
theorem wp_next {Q : PUnit.{1} → sProp 𝕄} (c : Dev nD) (i : Fin 4) (k : BProg F) {s : ℕ} (hs : s < 14) {X O : CellTallies nD τ sig ℕ}
    (hX : Above (s + 2) X) (hO : O = X + crIf c i s + sdT c i (s + 1)) :
    iprop(recs m K KM ∗ sst (F := F) c i s ∗ ow c O)
      ⊢ iprop(((sst (F := F) c i (s + 1) ∗ ow c X) -∗ wpc c k Q)
          -∗ wpc c (nextC cm ss rs cr c i s (chunkAt m i c ⟨s + 1, by omega⟩) k) Q) := by
  subst hO
  have hO : Above (s + 2) (X + crIf c i s + sdT c i (s + 1)) :=
    (hX.add (above_crIf c i (by omega))).add (above_sdT c i (by omega) (by omega))
  unfold sst nextC recvAddC toks
  rw [peel (show s + 1 < 15 by omega)]
  iintro ⟨#HR, ⟨HpR, HpS, Hc, Hrc, ⟨⟨Hts, Htr⟩, Htoks⟩, Hcp, Hcd, Hat, Hpay, Hheld, Hkept⟩, HO⟩ Hk
  iapply (wp_recvSent m K KM c i _ (show s < 15 by omega) hO) $$ [HpR HpS Hc Hrc HO]
  · isplitr; · iexact HR
    isplitl [HpR]; · iexact HpR
    isplitl [HpS]; · iexact HpS
    isplitl [Hc]; · iexact Hc
    isplitl [Hrc] <;> iassumption
  iintro ⟨HpR, HpS, Hrc, HO, Hslot, Hold⟩
  iapply (wp_loadSlot c i (slot (s + 1)) _ _) $$ Hslot
  iintro %v ⟨%hv, Hslot⟩
  iapply (wp_loadSlot c i (slot (s + 1)) _ _) $$ Hslot
  iintro %v' ⟨-, Hslot⟩
  have hst : addSlot (F := F) (chunkAt m i c ⟨s + 1, by omega⟩) v = asSlot (msg m i (s + 1) c) := by
    unfold addSlot
    rw [hv, msg, fin15_eq (show s + 1 < 15 by omega)]
  rw [hst]
  ihave Hslot := (slotHas_any c i _ _) $$ Hslot
  iapply (wp_storeSlot c i (slot (s + 1)) _ _) $$ Hslot
  iintro Hslot
  iapply (wp_optWait m K KM c i _ hs hO) $$ [Hcp Hcd Hheld HO]
  · isplitr; · iexact HR
    isplitl [Hcp]; · iexact Hcp
    isplitl [Hcd]; · iexact Hcd
    isplitl [Hheld] <;> iassumption
  iintro ⟨Hcp, Hcd, Hheld, Hg, HO⟩
  ihave #HrS := (reached_sd c i (s + 1)) $$ HpS
  ihave #HrR := (reached_rc c i s) $$ HpR
  iapply (wp_msg m K KM c i _ (show s + 1 < 15 by omega) (X + crIf c i s)) $$ [Hslot Hg HO Hts Htr]
  · isplitr; · iexact HR
    isplitl [Hslot]; · iexact Hslot
    isplitl [Hg]; · iexact Hg
    isplitl [HO]; · iexact HO
    isplitl [Hts]; · iexact Hts
    isplitr; · iexact HrS
    iexact Htr
  iintro ⟨Hc, HO⟩
  iapply (wp_optCredit m K KM c i k X) $$ [Hat Hpay Hkept Hold HO]
  · isplitr; · iexact HR
    isplitl [Hat]; · iexact Hat
    isplitl [Hpay]; · iexact Hpay
    isplitl [Hkept]; · iexact Hkept
    isplitl [Hold]; · iexact Hold
    isplitr; · iexact HrR
    iexact HO
  iintro ⟨Hat, Hpay, Hkept, HO⟩
  iapply Hk
  isplitr [HO]
  · isplitl [HpR]; · iexact HpR
    isplitl [HpS]; · iexact HpS
    isplitl [Hc]; · iexact Hc
    isplitl [Hrc]; · iexact Hrc
    isplitl [Htoks]; · iexact Htoks
    isplitl [Hcp]; · iexact Hcp
    isplitl [Hcd]; · iexact Hcd
    isplitl [Hat]; · iexact Hat
    isplitl [Hpay]; · iexact Hpay
    isplitl [Hheld] <;> iassumption
  iexact HO

/-- Step 0 of a stream. -/
theorem wp_first {Q : PUnit.{1} → sProp 𝕄} (c : Dev nD) (i : Fin 4) (k : BProg F) (X : CellTallies nD τ sig ℕ) :
    iprop(recs m K KM ∗ pst (F := F) c i ∗ ow c (X + sdT c i 0))
      ⊢ iprop(((sst (F := F) c i 0 ∗ ow c X) -∗ wpc c k Q)
          -∗ wpc c (firstC cm ss rs c i (chunkAt m i c 0) k) Q) := by
  unfold sst pst firstC toks held
  rw [peel (show 0 < 15 by omega), peel (show 0 < 3 by omega)]
  iintro ⟨#HR, ⟨HpR, HpS, Hslot, Hrc, ⟨⟨Hts, Htr⟩, Htoks⟩, Hcp, Hcd, Hat, Hpay, ⟨Hg, Hheld⟩⟩, HO⟩ Hk
  ihave Hslot := (slotAny_has c i _) $$ Hslot
  icases Hslot with ⟨%u, Hslot⟩
  iapply (wp_loadSlot c i (slot 0) _ _) $$ Hslot
  iintro %v ⟨-, Hslot⟩
  ihave Hslot := (slotHas_any c i _ _) $$ Hslot
  iapply (wp_storeSlot c i (slot 0) _ _) $$ Hslot
  iintro Hslot
  ihave #HrS := (reached_sd c i 0) $$ HpS
  iapply (wp_msg m K KM c i _ (show 0 < 15 by omega) X) $$ [Hslot Hg HO Hts Htr]
  · isplitr; · iexact HR
    isplitl [Hslot]; · iexact Hslot
    isplitl [Hg]; · iexact Hg
    isplitl [HO]; · iexact HO
    isplitl [Hts]; · iexact Hts
    isplitr; · iexact HrS
    iexact Htr
  iintro ⟨Hc, HO⟩
  iapply Hk
  isplitr [HO]
  · isplitl [HpR]; · iexact HpR
    isplitl [HpS]; · iexact HpS
    isplitl [Hc]; · iexact Hc
    isplitl [Hrc]; · iexact Hrc
    isplitl [Htoks]; · iexact Htoks
    isplitl [Hcp]; · iexact Hcp
    isplitl [Hcd]; · iexact Hcd
    isplitl [Hat]; · iexact Hat
    isplitl [Hpay]; · iexact Hpay
    isplitl [Hheld]; · iexact Hheld
    unfold kept
    rw [none_left (by omega)]
    iempintro
  iexact HO

end Cert.KernelIdeal.Ring

end
-- ==== Proof.Finish.lean ====
/-
  The end of the body: the last receipt of each stream and its block of the result (`wp_fin`), the
  fourteen steps of the four streams (`wp_steps`), and the whole end (`wp_end`).
-/
module

public import proofs.«01_k».proof.Proof.Stream
public import Idealize.ShloMosaic.Lib.Pipeline.Value

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (KM : MK → ℕ)

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The result's block -/

abbrev s0M : Memref sig .tc .smem S1 .f32 := Memref.whole cc0_stg2_0
abbrev s1M : Memref sig .tc .smem S1 .f32 := Memref.whole cc0_stg3_0

/-- The staged scales. -/
def s0stg (c : Dev nD) : (cc0_stg2_0 : Ref sig .tc).ty.Contents (Elt F) :=
  (win0_2.blk t0_0).view.read (Elt F) (m ((c : Thread nD τ).loc main_arg2))
def s1stg (c : Dev nD) : (cc0_stg3_0 : Ref sig .tc).ty.Contents (Elt F) :=
  (win0_3.blk t0_0).view.read (Elt F) (m ((c : Thread nD τ).loc main_arg3))

/-- The product of the two scales. -/
def scl (c : Dev nD) : F .f32 :=
  Scalar.mulf
    (s0M.view.readAt (Elt F) (Rect.unit (s := S1) ![0] S1.size inb_S1_S1_0).toLoadRect (s0stg m c) (Shape.Idx.first (numel1_S1.symm ▸ Nat.one_pos)))
    (s1M.view.readAt (Elt F) (Rect.unit (s := S1) ![0] S1.size inb_S1_S1_0).toLoadRect (s1stg m c) (Shape.Idx.first (numel1_S1.symm ▸ Nat.one_pos)))

/-- The block of the result stream `i` of device `c` ends with. -/
def piece (i : Fin 4) (c : Dev nD) : FVec F S256x512 .f32 :=
  maximumf (mulf (sitofp .f32 (addi (msg m i 14 (up i c)) (ownChunk m i c))) (broadcast S256x512 (scl m c)))
    (broadcast S256x512 (Scalar.ofBits .f32 0x00000000#32))

/-- The stream that computes a column of the result, -/
def strm (x : S256x2048.Idx) : Fin 4 :=
  sel4 0 2 1 3 ⟨(x 1).val / 512, by have h : (x 1).val < 2048 := (x 1).isLt; omega⟩
/-- and the element's place in the stream's block. -/
def within (x : S256x2048.Idx) : S256x512.Idx
  | ⟨0, _⟩ => ⟨(x 0).val, (x 0).isLt⟩
  | ⟨1, _⟩ => ⟨(x 1).val % 512, Nat.mod_lt _ (by decide)⟩

/-- The result of device `c`. -/
def outAt (c : Dev nD) : (cc0_stg4_0 : Ref sig .tc).ty.Contents (Elt F) := fun x => piece m (strm x) c (within x)

theorem outOff_cols (i : Fin 4) : outOff i 0 = 0 ∧ outOff i 1 = 512 * (sel4 0 2 1 3 i : Fin 4).val := by
  revert i; decide
theorem perm_inj : ∀ i j : Fin 4, i ≠ j → (sel4 0 2 1 3 i : Fin 4).val ≠ (sel4 0 2 1 3 j : Fin 4).val := by decide
theorem perm_perm : ∀ k : Fin 4, sel4 0 2 1 3 (sel4 0 2 1 3 k : Fin 4) = k := by decide

theorem emb_within (x : S256x2048.Idx) : (outR (strm x)).emb (within x) = x := by
  funext a
  refine Fin.ext ?_
  rw [Rect.emb_apply]
  match a with
  | ⟨0, _⟩ =>
    show outOff (strm x) 0 + 1 * (x 0).val = (x 0).val
    rw [(outOff_cols _).1]; omega
  | ⟨1, _⟩ =>
    show outOff (strm x) 1 + 1 * ((x 1).val % 512) = (x 1).val
    rw [(outOff_cols _).2]
    unfold strm
    rw [perm_perm]
    show 512 * ((x 1).val / 512) + 1 * ((x 1).val % 512) = (x 1).val
    omega

theorem outR_disjoint {i j : Fin 4} (h : i ≠ j) : Disjoint (outR i).set (outR j).set := by
  refine Rect.disjoint_of_axis _ _ 1 fun a ha b hb => ?_
  have ha : a < 512 := ha
  have hb : b < 512 := hb
  show outOff i 1 + 1 * a ≠ outOff j 1 + 1 * b
  rw [(outOff_cols i).2, (outOff_cols j).2]
  have := perm_inj i j h
  omega

/-- The result's buffer, the blocks of the streams in `S` written. -/
def outSt (c : Dev nD) (S : Finset (Fin 4)) : sProp 𝕄 :=
  iprop(∃ f : Buf (Elt F) ((c : Thread nD τ).loc cc0_stg4_0), ⌜∀ i ∈ S, (oM.access (outR i)).read (Elt F) f = piece m i c⌝
    ∗ ((c : Thread nD τ).loc cc0_stg4_0 ↦{fullShare} f))

theorem outSt_start (c : Dev nD) (f : Buf (Elt F) ((c : Thread nD τ).loc cc0_stg4_0)) :
    ((c : Thread nD τ).loc cc0_stg4_0 ↦{fullShare} f) ⊢ outSt m c ∅ := by
  unfold outSt
  iintro H
  iexists f
  isplitr; · ipureintro; exact fun i hi => absurd hi (Finset.notMem_empty i)
  iexact H

theorem outSt_done (c : Dev nD) : outSt m c Finset.univ ⊢ ((c : Thread nD τ).loc cc0_stg4_0 ↦{fullShare} outAt m c) := by
  unfold outSt
  iintro ⟨%f, %hf, H⟩
  have : f = outAt m c := funext fun x => by
    have h := congrFun (hf (strm x) (Finset.mem_univ _)) (within x)
    have h' : (oM.access (outR (strm x))).read (Elt F) f (within x) = f ((outR (strm x)).emb (within x)) := rfl
    rw [h', emb_within] at h
    exact h
  subst this
  iexact H

/-- The last receipt of a stream and its block of the result. -/
theorem wp_fin {Q : PUnit.{1} → sProp 𝕄} (c : Dev nD) (i : Fin 4) (k : BProg F) (S : Finset (Fin 4)) (hi : i ∉ S) :
    iprop(recs m K KM ∗ sst (F := F) c i 14 ∗ ow c 0 ∗ outSt m c S)
      ⊢ iprop(((fst (F := F) c i ∗ ow c 0 ∗ outSt m c (insert i S)) -∗ wpc c k Q)
          -∗ wpc c (finC oM cm ss rs i (scl m c) (ownChunk m i c) k) Q) := by
  unfold sst finC outSt
  iintro ⟨#HR, ⟨HpR, HpS, Hc, Hrc, -, Hcp, -, -, -, -, Hkept⟩, HO, ⟨%f, %hf, Hout⟩⟩ Hk
  iapply (wp_recvSent m K KM c i _ (s := 14) (by omega) (Above.zero _)) $$ [HpR HpS Hc Hrc HO]
  · isplitr; · iexact HR
    isplitl [HpR]; · iexact HpR
    isplitl [HpS]; · iexact HpS
    isplitl [Hc]; · iexact Hc
    isplitl [Hrc] <;> iassumption
  iintro ⟨HpR, HpS, -, HO, Hslot, Hold⟩
  iapply (wp_loadSlot c i (slot (14 + 1)) _ _) $$ Hslot
  iintro %v ⟨%hv, Hslot⟩
  iapply (wp_load 𝒱₀ (c : Thread nD τ) none Set.univ (m := oM) (S := Finset.univ) (Finset.subset_univ _)) $$ Hout
  iintro Hout
  iapply (wp_store 𝒱₀ (c : Thread nD τ) none Set.univ (m := oM) (r := outR i) (Mk := Finset.univ) (S := Finset.univ) (Finset.subset_univ _)) $$ Hout
  iintro Hout
  iapply Hk
  isplitl [HpR HpS Hcp Hkept Hslot Hold]
  · unfold fst
    isplitl [HpR]; · iexact HpR
    isplitl [HpS]; · iexact HpS
    isplitl [Hcp]; · iexact Hcp
    unfold kept
    ihave Hkept := (Entails.of_eq (peel (show 12 < 14 by omega) (fun t => slotAny (F := F) c i (slot t)))) $$ Hkept
    icases Hkept with ⟨H0, Hkept⟩
    ihave Hkept := (Entails.of_eq (peel (show 13 < 14 by omega) (fun t => slotAny (F := F) c i (slot t)))) $$ Hkept
    icases Hkept with ⟨H1, -⟩
    ihave Hslot := (slotHas_any c i _ _) $$ Hslot
    iapply (Entails.of_eq (four (fun j => slotAny (F := F) c i j)).symm)
    isplitl [H0]; · iexact H0
    isplitl [H1]; · iexact H1
    isplitl [Hold]; · iexact Hold
    iexact Hslot
  isplitl [HO]; · iexact HO
  iexists ((oM.access (outR i)).write (Elt F) f (finOf (F := F) (scl m c) (ownChunk m i c) v) Finset.univ)
  isplitr
  · ipureintro
    intro j hj
    rcases Finset.mem_insert.mp hj with rfl | hj
    · rw [View.read_write_univ]
      unfold finOf piece
      rw [hv]
    · have hij : j ≠ i := fun e => hi (e ▸ hj)
      refine (View.read_slice_write_slice_of_disjoint (v := oM.view) (outR j) (outR i) f _ Finset.univ ?_).trans (hf j hj)
      rw [View.setOn_univ, View.set_slice, View.set_slice]
      exact (Finset.disjoint_map _).mpr (outR_disjoint hij)
  iexact Hout

/-! ## The steps of the four streams -/

/-- The staged blocks of `x` and `w`. -/
def xw (c : Dev nD) : sProp 𝕄 :=
  iprop(((c : Thread nD τ).loc cc0_stg0_0 ↦{fullShare} xstg m c) ∗ ((c : Thread nD τ).loc cc0_stg1_0 ↦{fullShare} wstg m c))

theorem wp_loads {Q : PUnit.{1} → sProp 𝕄} (c : Dev nD) (s : Fin 15) (k : IVec S256x1024 32 → IVec S256x1024 32 → BProg F) :
    xw m c ⊢ iprop((xw m c -∗ wpc c (k (prodR m c s) (prodL m c s)) Q) -∗ wpc c (loadsC xM wM c s k) Q) := by
  unfold xw loadsC
  iintro ⟨Hx, Hw⟩ Hk
  iapply (wp_load 𝒱₀ (c : Thread nD τ) none Set.univ (m := xM) (S := Finset.univ) (Finset.subset_univ _)) $$ Hx
  iintro Hx
  iapply (wp_load 𝒱₀ (c : Thread nD τ) none Set.univ (m := wM) (S := Finset.univ) (Finset.subset_univ _)) $$ Hw
  iintro Hw
  iapply (wp_load 𝒱₀ (c : Thread nD τ) none Set.univ (m := xM) (S := Finset.univ) (Finset.subset_univ _)) $$ Hx
  iintro Hx
  iapply (wp_load 𝒱₀ (c : Thread nD τ) none Set.univ (m := wM) (S := Finset.univ) (Finset.subset_univ _)) $$ Hw
  iintro Hw
  iapply Hk
  isplitl [Hx] <;> iassumption

theorem sel4_0 {α : Type _} (a b c d : α) : sel4 a b c d 0 = a := rfl
theorem sel4_1 {α : Type _} (a b c d : α) : sel4 a b c d 1 = b := rfl
theorem sel4_2 {α : Type _} (a b c d : α) : sel4 a b c d 2 = c := rfl
theorem sel4_3 {α : Type _} (a b c d : α) : sel4 a b c d 3 = d := rfl
theorem chunk_0 (c : Dev nD) (s : Fin 15) : chunkOf 0 (prodR m c s) = chunkAt m 0 c s := by rw [chunkAt, sel4_0]
theorem chunk_1 (c : Dev nD) (s : Fin 15) : chunkOf 1 (prodL m c s) = chunkAt m 1 c s := by rw [chunkAt, sel4_1]
theorem chunk_2 (c : Dev nD) (s : Fin 15) : chunkOf 2 (prodR m c s) = chunkAt m 2 c s := by rw [chunkAt, sel4_2]
theorem chunk_3 (c : Dev nD) (s : Fin 15) : chunkOf 3 (prodL m c s) = chunkAt m 3 c s := by rw [chunkAt, sel4_3]
theorem own_0 (c : Dev nD) : chunkOf 0 (ownR m c) = ownChunk m 0 c := by rw [ownChunk, sel4_0]
theorem own_1 (c : Dev nD) : chunkOf 1 (ownL m c) = ownChunk m 1 c := by rw [ownChunk, sel4_1]
theorem own_2 (c : Dev nD) : chunkOf 2 (ownR m c) = ownChunk m 2 c := by rw [ownChunk, sel4_2]
theorem own_3 (c : Dev nD) : chunkOf 3 (ownL m c) = ownChunk m 3 c := by rw [ownChunk, sel4_3]

/-- The four streams after step `s`. -/
def sst4 (c : Dev nD) (s : ℕ) : sProp 𝕄 :=
  iprop(sst (F := F) c 0 s ∗ sst (F := F) c 1 s ∗ sst (F := F) c 2 s ∗ sst (F := F) c 3 s)

theorem wp_steps {Q : PUnit.{1} → sProp 𝕄} (c : Dev nD) (k : BProg F) : ∀ (n s : ℕ) (h : s + n < 15) (e : ℕ), s + n = e →
    iprop(recs m K KM ∗ sst4 (F := F) c s ∗ xw m c ∗ ow c (oRest c s))
      ⊢ iprop(((sst4 (F := F) c e ∗ xw m c ∗ ow c (oRest c e)) -∗ wpc c k Q)
          -∗ wpc c (stepsC xM wM cm ss rs cr c k n s h) Q)
  | 0, s, h, e, he => by
    subst he
    rw [Nat.add_zero]
    unfold stepsC
    iintro ⟨-, H⟩ Hk
    iapply Hk
    iexact H
  | n + 1, s, h, e, he => by
    unfold stepsC sst4
    have hs : s < 14 := by omega
    rw [oRest_succ c hs]
    have hA := above_oRest c (s := s + 1) (b := s + 2) (by omega)
    have hc (i : Fin 4) := above_crIf c i (k := s) (b := s + 2) (by omega)
    have hd (i : Fin 4) := above_sdT c i (t := s + 1) (b := s + 2) (by omega) (by omega)
    iintro ⟨#HR, ⟨H0, H1, H2, H3⟩, Hxw, HO⟩ Hk
    iapply (wp_loads m c ⟨s + 1, Nat.succ_lt_succ hs⟩ _) $$ Hxw
    iintro Hxw
    rw [chunk_0, chunk_1, chunk_2, chunk_3]
    iapply (wp_next m K KM c 0 _ hs ((((((hA.add (hc 3)).add (hd 3)).add (hc 2)).add (hd 2)).add (hc 1)).add (hd 1)) rfl) $$ [H0 HO]
    · isplitr; · iexact HR
      isplitl [H0] <;> iassumption
    iintro ⟨H0, HO⟩
    iapply (wp_next m K KM c 1 _ hs ((((hA.add (hc 3)).add (hd 3)).add (hc 2)).add (hd 2)) rfl) $$ [H1 HO]
    · isplitr; · iexact HR
      isplitl [H1] <;> iassumption
    iintro ⟨H1, HO⟩
    iapply (wp_next m K KM c 2 _ hs ((hA.add (hc 3)).add (hd 3)) rfl) $$ [H2 HO]
    · isplitr; · iexact HR
      isplitl [H2] <;> iassumption
    iintro ⟨H2, HO⟩
    iapply (wp_next m K KM c 3 _ hs hA rfl) $$ [H3 HO]
    · isplitr; · iexact HR
      isplitl [H3] <;> iassumption
    iintro ⟨H3, HO⟩
    ihave IH := (wp_steps (Q := Q) c k n (s + 1) (by omega) e (by omega)) $$ [H0 H1 H2 H3 Hxw HO]
    · isplitr; · iexact HR
      isplitl [H0 H1 H2 H3]
      · unfold sst4
        isplitl [H0]; · iexact H0
        isplitl [H1]; · iexact H1
        isplitl [H2] <;> iassumption
      isplitl [Hxw] <;> iassumption
    iapply IH
    iexact Hk

/-- The scales' staged words. -/
def sc2 (c : Dev nD) : sProp 𝕄 :=
  iprop(((c : Thread nD τ).loc cc0_stg2_0 ↦{fullShare} s0stg m c) ∗ ((c : Thread nD τ).loc cc0_stg3_0 ↦{fullShare} s1stg m c))

/-- The end of the body. -/
theorem wp_end {Q : PUnit.{1} → sProp 𝕄} (c : Dev nD) :
    iprop(recs m K KM ∗ sst4 (F := F) c 14 ∗ xw m c ∗ sc2 m c ∗ ow c 0 ∗ outSt m c ∅)
      ⊢ iprop(((fst (F := F) c 0 ∗ fst (F := F) c 1 ∗ fst (F := F) c 2 ∗ fst (F := F) c 3 ∗ xw m c ∗ sc2 m c ∗ ow c 0 ∗ outSt m c Finset.univ)
            -∗ |={Set.univ}=> Q ⟨⟩)
          -∗ wpc c (endC xM wM s0M s1M oM cm ss rs c) Q) := by
  unfold sst4 xw sc2 endC
  iintro ⟨#HR, ⟨H0, H1, H2, H3⟩, ⟨Hx, Hw⟩, ⟨Ha, Hb⟩, HO, Hout⟩ Hk
  iapply (wp_load 𝒱₀ (c : Thread nD τ) none Set.univ (m := s0M) (S := Finset.univ) (Finset.subset_univ _)) $$ Ha
  iintro Ha
  iapply (wp_load 𝒱₀ (c : Thread nD τ) none Set.univ (m := s1M) (S := Finset.univ) (Finset.subset_univ _)) $$ Hb
  iintro Hb
  iapply (wp_load 𝒱₀ (c : Thread nD τ) none Set.univ (m := xM) (S := Finset.univ) (Finset.subset_univ _)) $$ Hx
  iintro Hx
  iapply (wp_load 𝒱₀ (c : Thread nD τ) none Set.univ (m := wM) (S := Finset.univ) (Finset.subset_univ _)) $$ Hw
  iintro Hw
  rw [← scl.eq_1, ← ownR.eq_1, own_0, own_2]
  iapply (wp_fin m K KM c 0 _ ∅ (by decide)) $$ [H0 HO Hout]
  · isplitr; · iexact HR
    isplitl [H0]; · iexact H0
    isplitl [HO] <;> iassumption
  iintro ⟨H0, HO, Hout⟩
  iapply (wp_fin m K KM c 2 _ (insert 0 ∅) (by decide)) $$ [H2 HO Hout]
  · isplitr; · iexact HR
    isplitl [H2]; · iexact H2
    isplitl [HO] <;> iassumption
  iintro ⟨H2, HO, Hout⟩
  iapply (wp_load 𝒱₀ (c : Thread nD τ) none Set.univ (m := xM) (S := Finset.univ) (Finset.subset_univ _)) $$ Hx
  iintro Hx
  iapply (wp_load 𝒱₀ (c : Thread nD τ) none Set.univ (m := wM) (S := Finset.univ) (Finset.subset_univ _)) $$ Hw
  iintro Hw
  rw [← ownL.eq_1, own_1, own_3]
  iapply (wp_fin m K KM c 1 _ (insert 2 (insert 0 ∅)) (by decide)) $$ [H1 HO Hout]
  · isplitr; · iexact HR
    isplitl [H1]; · iexact H1
    isplitl [HO] <;> iassumption
  iintro ⟨H1, HO, Hout⟩
  iapply (wp_fin m K KM c 3 _ (insert 1 (insert 2 (insert 0 ∅))) (by decide)) $$ [H3 HO Hout]
  · isplitr; · iexact HR
    isplitl [H3]; · iexact H3
    isplitl [HO] <;> iassumption
  iintro ⟨H3, HO, Hout⟩
  ihave Hout := (Entails.of_eq (congrArg (outSt m c) (show insert 3 (insert 1 (insert 2 (insert 0 ∅))) = (Finset.univ : Finset (Fin 4)) by decide))) $$ Hout
  iapply (Entails.of_eq (wp_ret _ _ _ _ _).symm)
  iapply Hk
  isplitl [H0]; · iexact H0
  isplitl [H1]; · iexact H1
  isplitl [H2]; · iexact H2
  isplitl [H3]; · iexact H3
  isplitl [Hx Hw]
  · isplitl [Hx] <;> iassumption
  isplitl [Ha Hb]
  · isplitl [Ha] <;> iassumption
  isplitl [HO] <;> iassumption

end Cert.KernelIdeal.Ring

end
-- ==== Proof.Body.lean ====
/-
  The body of one device under the protocol: the barrier (`wp_bar`), the steps, the end, and the
  cells closed after the last use (`sound_body`).
-/
module

public import proofs.«01_k».proof.Proof.Finish
public import Idealize.ShloMosaic.Lib.Pipeline.Value

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (K : Dev nD × CK → ℕ) (KM : MK → ℕ)

/-! ## Closing the cells -/

omit [FloatOps F] in
/-- Something persistent is handed to each part. -/
theorem bigSep_know {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

theorem close_cell (c : Dev nD) (k : CK) :
    iprop(recs m K KM ∗ atPos ER (kcell (c, k)) (rounds k) ∅ 0) ⊢ |={Set.univ}=> semVal (kcell (c, k)) 0 := by
  iintro ⟨#HR, Hat⟩
  iapply (cell_close ER (ringRd m) (κ := K (c, k)) (Set.mem_univ _) (fun h => h) (R := rounds k) (duties_end m c k)) $$ [Hat]
  isplitr; · iapply (recs_inv m K KM (c, k)); iexact HR
  iexact Hat

theorem rR_end : ∀ i j : Fin 4, rR j 15 = rounds (kRc i j) := by decide
theorem rS_end : ∀ i j : Fin 4, rS j 15 = rounds (kSd i j) := by decide

theorem close_posR (c : Dev nD) (i : Fin 4) :
    iprop(recs m K KM ∗ posR (F := F) c i 15) ⊢ |={Set.univ}=> bigSep Finset.univ fun j => semVal (rcCell c i j) 0 := by
  unfold posR
  refine (bigSep_know (R := recs m K KM) (B := fun j => iprop(|={Set.univ}=> semVal (rcCell c i j) 0)) fun j _ => ?_).trans (bigSep_fupd _ _)
  rw [rR_end i j]
  iintro ⟨#HR, Hat, -⟩
  iapply (close_cell m K KM c (kRc i j)) $$ [Hat]
  isplitr; · iexact HR
  iexact Hat

theorem close_posS (c : Dev nD) (i : Fin 4) :
    iprop(recs m K KM ∗ posS (F := F) c i 15) ⊢ |={Set.univ}=> bigSep Finset.univ fun j => semVal (sdCell c i j) 0 := by
  unfold posS
  refine (bigSep_know (R := recs m K KM) (B := fun j => iprop(|={Set.univ}=> semVal (sdCell c i j) 0)) fun j _ => ?_).trans (bigSep_fupd _ _)
  rw [rS_end i j]
  iintro ⟨#HR, Hat, -⟩
  iapply (close_cell m K KM c (kSd i j)) $$ [Hat]
  isplitr; · iexact HR
  iexact Hat

theorem close_cr (c : Dev nD) (i : Fin 4) :
    iprop(recs m K KM ∗ crPos (F := F) c i 12) ⊢ |={Set.univ}=> semVal (crCell c i) 0 := by
  unfold crPos
  iintro ⟨#HR, ⟨%T, %hT, Hat, -⟩⟩
  have hTe : T = Finset.range 12 := Finset.eq_of_subset_of_card_le hT.1 (by rw [Finset.card_range]; exact hT.2)
  imod (fupd_skip ER (ringRd m) (κ := K (c, kCr i)) (g := crCell c i) (R := 0) (m := 12) (T := T) (by rw [duties_cr, hTe]) (expect_cr m c i).symm
    (Set.mem_univ _)) $$ [Hat] with ⟨Hat, -⟩
  · isplitr; · iapply (recs_inv m K KM (c, kCr i)); iexact HR
    iexact Hat
  iapply (close_cell m K KM c (kCr i)) $$ [Hat]
  isplitr; · iexact HR
  iexact Hat

/-- What a stream ends with once its cells are closed. -/
def ended (c : Dev nD) (i : Fin 4) : sProp 𝕄 :=
  iprop(semVal (crCell c i) 0 ∗ (bigSep Finset.univ fun j => semVal (sdCell c i j) 0) ∗ (bigSep Finset.univ fun j => semVal (rcCell c i j) 0)
    ∗ bigSep Finset.univ fun j => slotAny (F := F) c i j)

theorem close_stream (c : Dev nD) (i : Fin 4) : iprop(recs m K KM ∗ fst (F := F) c i) ⊢ |={Set.univ}=> ended (F := F) c i := by
  unfold fst ended
  iintro ⟨#HR, HpR, HpS, Hcp, Hsl⟩
  imod (close_posR m K KM c i) $$ [HpR] with HpR
  · isplitr; · iexact HR
    iexact HpR
  imod (close_posS m K KM c i) $$ [HpS] with HpS
  · isplitr; · iexact HR
    iexact HpS
  imod (close_cr m K KM c i) $$ [Hcp] with Hcp
  · isplitr; · iexact HR
    iexact Hcp
  imodintro
  isplitl [Hcp]; · iexact Hcp
  isplitl [HpS]; · iexact HpS
  isplitl [HpR]; · iexact HpR
  iexact Hsl

/-! ## The barrier -/

/-- What a device starts its barrier with: its position, its two units, and the tokens of the two signals it gives. -/
def barSt (c : Dev nD) : sProp 𝕄 :=
  iprop(atPos ER (barCell c) 0 ∅ 0 ∗ cred (tallyAt (barCell c) 0 2) ∗ dutyTok ER (barCell (lf c)) 0 0 ∗ dutyTok ER (barCell (rt c)) 0 1)

/-- The slots lent to the device a stream receives from. -/
theorem lend (c : Dev nD) (i : Fin 4) :
    iprop(recs m K KM ∗ slotAny (F := F) c i 1 ∗ slotAny (F := F) c i 2 ∗ slotAny (F := F) c i 3) ⊢ grant3 (F := F) i (up i c) := by
  unfold grant3 grant
  rw [dn_up]
  iintro ⟨#HR, H1, H2, H3⟩
  isplitl [H1]
  · isplitl [H1]; · iexact H1
    iapply (recs_reached m K KM (c, kRc i (slot (0 + 1)))); iexact HR
  isplitl [H2]
  · isplitl [H2]; · iexact H2
    iapply (recs_reached m K KM (c, kRc i (slot (1 + 1)))); iexact HR
  isplitl [H3]; · iexact H3
  iapply (recs_reached m K KM (c, kRc i (slot (2 + 1)))); iexact HR

theorem lendL (c : Dev nD) :
    iprop(grant3 (F := F) 0 (up 0 c) ∗ grant3 (F := F) 2 (up 2 c)) ⊢ (ringRd m).payload (barCell (lf c)) 0 0 := by
  rw [payload_bar]; exact Entails.of_eq rfl
theorem lendR (c : Dev nD) :
    iprop(grant3 (F := F) 1 (up 1 c) ∗ grant3 (F := F) 3 (up 3 c)) ⊢ (ringRd m).payload (barCell (rt c)) 0 1 := by
  rw [payload_bar]; exact Entails.of_eq rfl

theorem grant3_held (c : Dev nD) (i : Fin 4) : grant3 (F := F) i c ⊢ held (F := F) c i 0 := by
  unfold grant3 held
  rw [peel (show 0 < 3 by omega), peel (show 0 + 1 < 3 by omega), peel (show 0 + 1 + 1 < 3 by omega), none_left (by omega)]
  iintro ⟨H0, H1, H2⟩
  isplitl [H0]; · iexact H0
  isplitl [H1]; · iexact H1
  isplitl [H2]; · iexact H2
  iempintro

theorem rest_bar (c : Dev nD) :
    bigSep ((ringRd m).duties (barCell c) 0 \ ∅) (fun d => (ringRd m).payload (barCell c) 0 d)
      ⊢ iprop((grant3 (F := F) 0 c ∗ grant3 (F := F) 2 c) ∗ grant3 (F := F) 1 c ∗ grant3 (F := F) 3 c) := by
  rw [Finset.sdiff_empty, duties_bar, bigSep_insert' (by decide), bigSep_singleton, payload_bar, payload_bar]
  exact Entails.of_eq rfl

theorem wp_bar {Q : PUnit.{1} → sProp 𝕄} (c : Dev nD) (k : BProg F) :
    iprop(recs m K KM ∗ barSt (F := F) c ∗ (bigSep Finset.univ fun i => bigSep Finset.univ fun j => slotAny (F := F) c i j) ∗ ow c (O₀ c))
      ⊢ iprop(((atPos ER (barCell c) 1 ∅ 0 ∗ (bigSep Finset.univ fun i => iprop(slotAny (F := F) c i 0 ∗ held (F := F) c i 0)) ∗ ow c (O₁ c))
            -∗ wpc c k Q)
          -∗ wpc c (.op (.semSignal (lf c, .tc) (SemArray.scalar (sig.barrier 0 rfl) : Sems sig S_).sem (1#32 : BitVec 32).toInt) fun _ =>
              .op (.semSignal (rt c, .tc) (SemArray.scalar (sig.barrier 0 rfl) : Sems sig S_).sem (1#32 : BitVec 32).toInt) fun _ =>
              .op (.semWait (SemArray.scalar (sig.barrier 0 rfl) : Sems sig S_).sem (2#32 : BitVec 32).toInt) fun _ => k) Q) := by
  unfold barSt ow
  rw [four]
  simp only [four (fun j => slotAny (F := F) c _ j)]
  rw [four]
  iintro ⟨#HR, ⟨Hat, Hc, HtL, HtR⟩, ⟨⟨A0, A1, A2, A3⟩, ⟨B0, B1, B2, B3⟩, ⟨C0, C1, C2, C3⟩, ⟨D0, D1, D2, D3⟩⟩, ⟨%W, HO⟩⟩ Hk
  iapply (Rounds.wp_signal 𝒱₀ ER (ringRd m) (c : Thread nD τ) none (dst := (lf c : Thread nD τ)) (κ := K (lf c, kBar)) (r := 0) (d := 0)
      (by rw [duties_bar]; decide) ((amount_bar m (lf c) 0 0).trans (by decide)) 0 (O₁ c + tallyAt (barCell (rt c)) 0 1) rfl)
    $$ [HO HtL A1 A2 A3 C1 C2 C3]
  · isplitr; · iapply (recs_inv m K KM (lf c, kBar)); iexact HR
    isplitl [HO]; · iexact HO
    isplitl [HtL]; · iexact HtL
    isplitl
    · iapply (lendL m c)
      isplitl [A1 A2 A3]
      · iapply (lend m K KM c 0)
        isplitr; · iexact HR
        isplitl [A1]; · iexact A1
        isplitl [A2] <;> iassumption
      iapply (lend m K KM c 2)
      isplitr; · iexact HR
      isplitl [C1]; · iexact C1
      isplitl [C2] <;> iassumption
    iapply (recs_reached m K KM (lf c, kBar)); iexact HR
  iintro HO
  iapply (Rounds.wp_signal 𝒱₀ ER (ringRd m) (c : Thread nD τ) none (dst := (rt c : Thread nD τ)) (κ := K (rt c, kBar)) (r := 0) (d := 1)
      (by rw [duties_bar]; decide) ((amount_bar m (rt c) 0 1).trans (by decide)) 0 (O₁ c) rfl)
    $$ [HO HtR B1 B2 B3 D1 D2 D3]
  · isplitr; · iapply (recs_inv m K KM (rt c, kBar)); iexact HR
    isplitl [HO]; · iexact HO
    isplitl [HtR]; · iexact HtR
    isplitl
    · iapply (lendR m c)
      isplitl [B1 B2 B3]
      · iapply (lend m K KM c 1)
        isplitr; · iexact HR
        isplitl [B1]; · iexact B1
        isplitl [B2] <;> iassumption
      iapply (lend m K KM c 3)
      isplitr; · iexact HR
      isplitl [D1]; · iexact D1
      isplitl [D2] <;> iassumption
    iapply (recs_reached m K KM (rt c, kBar)); iexact HR
  iintro HO
  iapply (Rounds.wp_wait_rest_token 𝒱₀ ER (ringRd m) (c : Thread nD τ) none (κ := K (c, kBar))
      (wpE_semWait_eq 𝒱₀ (c : Thread nD τ) none Set.univ) (Set.mem_univ _) 0 (O := O₁ c) (W := W) (R := 0) (m := 0) (T := ∅)
      (by rw [expect_bar]; decide)) $$ [Hc HO Hat]
  · isplitr; · iapply (recs_inv m K KM (c, kBar)); iexact HR
    isplitl [Hc]; · iexact Hc
    isplitl [HO]; · iexact HO
    isplitr
    · iapply (mayWait_of (by omega) (le_of_eq (lv_bar c 0)) (above_O₁ c))
      iapply (recs_lev m K KM); iexact HR
    iexact Hat
  iintro ⟨HO, Hat, -, Hpay⟩
  ihave Hp := (rest_bar m c) $$ Hpay
  icases Hp with ⟨⟨G0, G2⟩, G1, G3⟩
  ihave G0 := (grant3_held c 0) $$ G0
  ihave G1 := (grant3_held c 1) $$ G1
  ihave G2 := (grant3_held c 2) $$ G2
  ihave G3 := (grant3_held c 3) $$ G3
  iapply Hk
  isplitl [Hat]; · iexact Hat
  isplitr [HO]
  · isplitl [A0 G0]; · isplitl [A0] <;> iassumption
    isplitl [B0 G1]; · isplitl [B0] <;> iassumption
    isplitl [C0 G2]; · isplitl [C0] <;> iassumption
    isplitl [D0] <;> iassumption
  iexists _; iexact HO

/-! ## The body -/

/-- What a stream starts from, its slots aside. -/
def own (c : Dev nD) (i : Fin 4) : sProp 𝕄 :=
  iprop(posR (F := F) c i 0 ∗ posS (F := F) c i 0 ∗ rcvC (F := F) c i 0 ∗ toks (F := F) c i 0 ∗ crPos (F := F) c i 0
    ∗ crdC (F := F) c i 0 ∗ atPos EM ((up i c, i) : MK) 0 ∅ 0 ∗ payC (F := F) c i 0)

theorem pst_intro (c : Dev nD) (i : Fin 4) : iprop(own (F := F) c i ∗ slotAny (F := F) c i 0 ∗ held (F := F) c i 0) ⊢ pst (F := F) c i := by
  unfold own pst
  iintro ⟨⟨H1, H2, H3, H4, H5, H6, H7, H8⟩, Hs, Hh⟩
  isplitl [H1]; · iexact H1
  isplitl [H2]; · iexact H2
  isplitl [Hs]; · iexact Hs
  isplitl [H3]; · iexact H3
  isplitl [H4]; · iexact H4
  isplitl [H5]; · iexact H5
  isplitl [H6]; · iexact H6
  isplitl [H7]; · iexact H7
  isplitl [H8] <;> iassumption

theorem pst_all (c : Dev nD) :
    (bigSep Finset.univ fun i => iprop(own (F := F) c i ∗ slotAny (F := F) c i 0 ∗ held (F := F) c i 0)) ⊢ bigSep Finset.univ fun i => pst (F := F) c i :=
  bigSep_mono fun i _ => pst_intro c i

/-- The slots of the four streams. -/
def slots (c : Dev nD) : sProp 𝕄 := bigSep Finset.univ fun i => bigSep Finset.univ fun j => slotAny (F := F) c i j

/-- What the body starts from, -/
def bodyPre (c : Dev nD) : sProp 𝕄 :=
  iprop(recs m K KM ∗ barSt (F := F) c ∗ (bigSep Finset.univ fun i => own (F := F) c i) ∗ slots (F := F) c ∗ ow c (O₀ c)
    ∗ xw m c ∗ sc2 m c ∗ ∃ f, ((c : Thread nD τ).loc cc0_stg4_0 ↦{fullShare} f))
/-- and ends with. -/
def bodyEnd (c : Dev nD) : sProp 𝕄 :=
  iprop((bigSep Finset.univ fun i => ended (F := F) c i) ∗ semVal (barCell c) 0 ∗ ow c 0
    ∗ xw m c ∗ sc2 m c ∗ ((c : Thread nD τ).loc cc0_stg4_0 ↦{fullShare} outAt m c))

theorem sound_body {Q : PUnit.{1} → sProp 𝕄} (c : Dev nD) :
    iprop(bodyPre m K KM c ∗ (bodyEnd m c -∗ Q ⟨⟩))
      ⊢ wpc c (bodyC xM wM s0M s1M oM cm ss rs cr) Q := by
  unfold bodyC wpc
  rw [wp_deviceId]
  unfold mainC bodyPre slots
  iintro ⟨⟨#HR, Hbar, Hown, Hsl, HO, Hxw, Hsc, ⟨%f, Hout⟩⟩, Hk⟩
  iapply (wp_bar m K KM c _) $$ [Hbar Hsl HO]
  · isplitr; · iexact HR
    isplitl [Hbar]; · iexact Hbar
    isplitl [Hsl] <;> iassumption
  iintro ⟨Hbar, Hsl, HO⟩
  ihave Hp := (Entails.of_eq (bigSep_sep' Finset.univ (fun i => own (F := F) c i) (fun i => iprop(slotAny (F := F) c i 0 ∗ held (F := F) c i 0))).symm) $$ [Hown Hsl]
  · isplitl [Hown] <;> iassumption
  ihave Hp := (pst_all (F := F) c) $$ Hp
  ihave Hp := (Entails.of_eq (four (fun i => pst (F := F) c i))) $$ Hp
  icases Hp with ⟨P0, P1, P2, P3⟩
  iapply (wp_loads m c 0 _) $$ Hxw
  iintro Hxw
  rw [chunk_0, chunk_1, chunk_2, chunk_3, O₁.eq_1]
  iapply (wp_first m K KM c 0 _ _) $$ [P0 HO]
  · isplitr; · iexact HR
    isplitl [P0] <;> iassumption
  iintro ⟨P0, HO⟩
  iapply (wp_first m K KM c 1 _ _) $$ [P1 HO]
  · isplitr; · iexact HR
    isplitl [P1] <;> iassumption
  iintro ⟨P1, HO⟩
  iapply (wp_first m K KM c 2 _ _) $$ [P2 HO]
  · isplitr; · iexact HR
    isplitl [P2] <;> iassumption
  iintro ⟨P2, HO⟩
  iapply (wp_first m K KM c 3 _ _) $$ [P3 HO]
  · isplitr; · iexact HR
    isplitl [P3] <;> iassumption
  iintro ⟨P3, HO⟩
  iapply (wp_steps m K KM c _ 14 0 _ 14 rfl) $$ [P0 P1 P2 P3 Hxw HO]
  · isplitr; · iexact HR
    isplitl [P0 P1 P2 P3]
    · unfold sst4
      isplitl [P0]; · iexact P0
      isplitl [P1]; · iexact P1
      isplitl [P2] <;> iassumption
    isplitl [Hxw] <;> iassumption
  iintro ⟨P, Hxw, HO⟩
  ihave HO := (Entails.of_eq (congrArg (ow c) (oRest_end c))) $$ HO
  ihave Hout := (outSt_start m c f) $$ Hout
  iapply (wp_end m K KM c) $$ [P Hxw Hsc HO Hout]
  · isplitr; · iexact HR
    isplitl [P]; · iexact P
    isplitl [Hxw]; · iexact Hxw
    isplitl [Hsc]; · iexact Hsc
    isplitl [HO] <;> iassumption
  iintro ⟨P0, P1, P2, P3, Hxw, Hsc, HO, Hout⟩
  ihave Hout := (outSt_done m c) $$ Hout
  imod (close_stream m K KM c 0) $$ [P0] with P0
  · isplitr; · iexact HR
    iexact P0
  imod (close_stream m K KM c 1) $$ [P1] with P1
  · isplitr; · iexact HR
    iexact P1
  imod (close_stream m K KM c 2) $$ [P2] with P2
  · isplitr; · iexact HR
    iexact P2
  imod (close_stream m K KM c 3) $$ [P3] with P3
  · isplitr; · iexact HR
    iexact P3
  imod (close_cell m K KM c kBar) $$ [Hbar] with Hbar
  · isplitr; · iexact HR
    iexact Hbar
  imodintro
  iapply Hk
  unfold bodyEnd
  isplitl [P0 P1 P2 P3]
  · iapply (Entails.of_eq (four (fun i => ended (F := F) c i)).symm)
    isplitl [P0]; · iexact P0
    isplitl [P1]; · iexact P1
    isplitl [P2] <;> iassumption
  isplitl [Hbar]; · iexact Hbar
  isplitl [HO]; · iexact HO
  isplitl [Hxw]; · iexact Hxw
  isplitl [Hsc] <;> iassumption

end Cert.KernelIdeal.Ring

end
-- ==== Proof.Deal.lean ====
/-
  What the launch deals the devices: the tokens of the duties each device pays, the mailboxes'
  counters, the cells' invariants, and the credits that match what the devices owe.
-/
module

public import proofs.«01_k».proof.Proof.Body

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Conjunctions over the cells, the duties, and the first numbers -/

omit [FloatOps F] in
theorem bigSep_fin (n : ℕ) (Φ : ℕ → sProp 𝕄) : bigSep (Finset.Ico 0 n) Φ = bigSep Finset.univ fun t : Fin n => Φ t.val := by
  rw [show Finset.Ico 0 n = (Finset.univ : Finset (Fin n)).map Fin.valEmbedding from by
    ext x
    simp only [Finset.mem_Ico, Finset.mem_map, Finset.mem_univ, true_and, Fin.valEmbedding_apply]
    exact ⟨fun h => ⟨⟨x, h.2⟩, rfl⟩, fun ⟨t, h⟩ => ⟨Nat.zero_le x, h ▸ t.isLt⟩⟩]
  exact bigSep_map _

omit [FloatOps F] in
theorem one (Φ : Unit → sProp 𝕄) : bigSep Finset.univ Φ = Φ () :=
  bigSep_univ_eq_bigSepL [()] (by decide) (by decide) Φ
omit [FloatOps F] in
theorem two (Φ : Fin 2 → sProp 𝕄) : bigSep Finset.univ Φ = iprop(Φ 0 ∗ Φ 1) :=
  bigSep_univ_eq_bigSepL [0, 1] (by decide) (by decide) Φ

omit [FloatOps F] in
theorem own_cells (Φ : Fin 4 ⊕ ((Fin 4 × Fin 4) ⊕ (Fin 4 × Fin 4)) → sProp 𝕄) :
    bigSep Finset.univ Φ = iprop((bigSep Finset.univ fun i => Φ (.inl i))
      ∗ (bigSep Finset.univ fun i => bigSep Finset.univ fun j => Φ (.inr (.inl (i, j))))
      ∗ bigSep Finset.univ fun i => bigSep Finset.univ fun j => Φ (.inr (.inr (i, j)))) := by
  rw [bigSep_univ_sum, bigSep_univ_sum, bigSep_univ_prod, bigSep_univ_prod]; rfl
omit [FloatOps F] in
theorem all_cells (Φ : CK → sProp 𝕄) :
    bigSep Finset.univ Φ = iprop(Φ kBar ∗ (bigSep Finset.univ fun i => Φ (kCr i))
      ∗ (bigSep Finset.univ fun i => bigSep Finset.univ fun j => Φ (kSd i j))
      ∗ bigSep Finset.univ fun i => bigSep Finset.univ fun j => Φ (kRc i j)) := by
  rw [bigSep_univ_sum, own_cells, one]; rfl

/-! ## The tokens -/

/-- A duty a device pays: a barrier signal, a credit, a transfer's departure, a transfer's arrival. -/
abbrev TK : Type := Fin 2 ⊕ ((Fin 4 × Fin 12) ⊕ ((Fin 4 × Fin 15) ⊕ (Fin 4 × Fin 15)))

/-- The cell, round and duty. -/
def tokIx : Dev nD × TK → (Dev nD × CK) × ℕ × ℕ
  | (c, .inl d) => ((if d = 0 then lf c else rt c, kBar), 0, d.val)
  | (c, .inr (.inl (i, n))) => ((up i c, kCr i), 0, n.val)
  | (c, .inr (.inr (.inl (i, t)))) => ((c, kSd i (slot t.val)), t.val / 4, 0)
  | (c, .inr (.inr (.inr (i, t)))) => ((dn i c, kRc i (slot (t.val + 1))), t.val / 4, 0)

theorem lf_inj {c c' : Dev nD} (h : lf c = lf c') : c = c' := by rw [← rt_lf c, h, rt_lf]
theorem rt_inj {c c' : Dev nD} (h : rt c = rt c') : c = c' := by rw [← lf_rt c, h, lf_rt]
theorem up_inj {i : Fin 4} {c c' : Dev nD} (h : up i c = up i c') : c = c' := by rw [← dn_up i c, h, dn_up]
theorem dn_inj {i : Fin 4} {c c' : Dev nD} (h : dn i c = dn i c') : c = c' := by rw [← up_dn i c, h, up_dn]
theorem fin15_of {t t' : Fin 15} {a : ℕ} (h : slot (t.val + a) = slot (t'.val + a)) (h' : t.val / 4 = t'.val / 4) : t = t' := by
  have := congrArg Fin.val h
  unfold slot at this
  dsimp only at this
  exact Fin.ext (by omega)

theorem tokIx_injective : Function.Injective tokIx := by
  rintro ⟨c, k⟩ ⟨c', k'⟩ h
  rcases k with d | ⟨i, n⟩ | ⟨i, t⟩ | ⟨i, t⟩ <;> rcases k' with d' | ⟨i', n'⟩ | ⟨i', t'⟩ | ⟨i', t'⟩ <;>
    simp only [tokIx, Prod.mk.injEq, reduceCtorEq, Sum.inr.injEq, Sum.inl.injEq, and_false, false_and, and_true, true_and] at h
  · obtain ⟨h1, h2⟩ := h
    have hd : d = d' := Fin.ext h2
    subst hd
    by_cases h0 : d = 0
    · rw [if_pos h0, if_pos h0] at h1; rw [lf_inj h1]
    · rw [if_neg h0, if_neg h0] at h1; rw [rt_inj h1]
  · obtain ⟨⟨h1, h2⟩, h3⟩ := h
    subst h2
    rw [up_inj h1, Fin.ext h3]
  · obtain ⟨⟨h1, h2, h3⟩, h4⟩ := h
    subst h1 h2
    rw [fin15_of (a := 0) h3 h4]
  · obtain ⟨⟨h1, h2, h3⟩, h4⟩ := h
    subst h2
    rw [dn_inj h1, fin15_of h3 h4]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def tokOf (x : Dev nD × TK) : GSem nD τ sig × ℕ × ℕ := (kcell (tokIx x).1, (tokIx x).2)
theorem tokOf_injective : Function.Injective tokOf := fun x y h => by
  unfold tokOf at h
  have h' := Prod.mk.inj h
  exact tokIx_injective (Prod.ext (kcell_injective h'.1) h'.2)

/-- The taking out of a mailbox. -/
def takeOf (x : MK × Fin 12) : MK × ℕ × ℕ := (x.1, x.2.val, 0)
theorem takeOf_injective : Function.Injective takeOf := fun x y h => by
  unfold takeOf at h
  have h' := Prod.mk.inj h
  exact Prod.ext h'.1 (Fin.ext (Prod.mk.inj h'.2).1)

def ringCells : Finset (GSem nD τ sig) := Finset.univ.map ⟨kcell, kcell_injective⟩
def ringToks : Finset (GSem nD τ sig × ℕ × ℕ) := Finset.univ.map ⟨tokOf, tokOf_injective⟩
def mailToks : Finset (MK × ℕ × ℕ) := Finset.univ.map ⟨takeOf, takeOf_injective⟩

/-- The ghost state at launch. -/
def u₀ : UU :=
  (initOf (Pipeline.cells cfgs cellOf_inj) (Pipeline.launchToks cfgs cellOf_inj), (initOf ringCells ringToks, initOf Finset.univ mailToks))

/-- The devices along a stream's mailboxes. -/
def around : MK ≃ MK where
  toFun ck := (up ck.2 ck.1, ck.2)
  invFun ck := (dn ck.2 ck.1, ck.2)
  left_inv ck := Prod.ext (dn_up ck.2 ck.1) rfl
  right_inv ck := Prod.ext (up_dn ck.2 ck.1) rfl

/-! ## What a device is dealt -/

/-- The token of a duty. -/
def tok (x : Dev nD × TK) : sProp 𝕄 := dutyTok ER (tokOf x).1 (tokOf x).2.1 (tokOf x).2.2

/-- What stays with device `c` throughout. -/
def lin (c : Dev nD) : sProp 𝕄 :=
  iprop((bigSep Finset.univ fun k : CK => atPos ER (kcell (c, k)) 0 ∅ 0)
    ∗ (bigSep Finset.univ fun i : Fin 4 => atPos EM ((up i c, i) : MK) 0 ∅ 0)
    ∗ (bigSep Finset.univ fun k : TK => tok (F := F) (c, k))
    ∗ bigSep Finset.univ fun i : Fin 4 => bigSep Finset.univ fun n : Fin 12 => dutyTok EM ((c, i) : MK) n.val 0)

/-- What the launch element deals device `c`. -/
def G (c : Dev nD) : sProp 𝕄 :=
  iprop((bigSep Finset.univ fun k : CK => roundState ER (ringRd m) (kcell (c, k)) 0)
    ∗ (bigSep Finset.univ fun k : CK => reached ER (kcell (c, k)) 0)
    ∗ (bigSep Finset.univ fun i : Fin 4 => roundAuth EM ((c, i) : MK) 0 ∅ 0) ∗ lin (F := F) c)

/-- What the devices know, but for the levels. -/
def recs₀ (K : Dev nD × CK → ℕ) (KM : MK → ℕ) : sProp 𝕄 :=
  iprop((bigSep Finset.univ fun ck => cellInv ER (ringRd m) (K ck) (kcell ck)) ∗ (bigSep Finset.univ fun ck => inv (KM ck) (mail (F := F) ck))
    ∗ bigSep Finset.univ fun ck : Dev nD × CK => reached ER (kcell ck) 0)
instance recs₀_persistent (K : Dev nD × CK → ℕ) (KM : MK → ℕ) : BI.Persistent (recs₀ m K KM) := by unfold recs₀; infer_instance

/-- After the invariants are made. -/
def G' (c : Dev nD) : sProp 𝕄 := iprop(∃ K KM, recs₀ m K KM ∗ lin (F := F) c)

omit [FloatOps F] in
theorem cells_eq (Φ : GSem nD τ sig → sProp 𝕄) :
    bigSep ringCells Φ = bigSep Finset.univ fun c : Dev nD => bigSep Finset.univ fun k : CK => Φ (kcell (c, k)) := by
  unfold ringCells; rw [bigSep_map, bigSep_univ_prod]; rfl
omit [FloatOps F] in
theorem toks_eq : bigSep ringToks (fun x => (dutyTok ER x.1 x.2.1 x.2.2 : sProp 𝕄))
    = bigSep Finset.univ fun c : Dev nD => bigSep Finset.univ fun k : TK => tok (F := F) (c, k) := by
  unfold ringToks; rw [bigSep_map, bigSep_univ_prod]; rfl
omit [FloatOps F] in
theorem takes_eq : bigSep mailToks (fun x => (dutyTok EM x.1 x.2.1 x.2.2 : sProp 𝕄))
    = bigSep Finset.univ fun c : Dev nD => bigSep Finset.univ fun i : Fin 4 => bigSep Finset.univ fun n : Fin 12 => dutyTok EM ((c, i) : MK) n.val 0 := by
  unfold mailToks; rw [bigSep_map, bigSep_univ_prod, bigSep_univ_prod]; rfl
omit [FloatOps F] in
theorem posts_eq : bigSep Finset.univ (fun ck : MK => (atPos EM ck 0 ∅ 0 : sProp 𝕄))
    = bigSep Finset.univ fun c : Dev nD => bigSep Finset.univ fun i : Fin 4 => atPos EM ((up i c, i) : MK) 0 ∅ 0 := by
  rw [bigSep_univ_equiv around, bigSep_univ_prod]; rfl

omit [FloatOps F] in
theorem auths : (bigSep Finset.univ fun ck : MK => initState EM ck : sProp 𝕄)
    ⊢ bigSep Finset.univ fun c : Dev nD => bigSep Finset.univ fun i : Fin 4 => roundAuth EM ((c, i) : MK) 0 ∅ 0 := by
  rw [← bigSep_univ_prod (fun ck : MK => (roundAuth EM ck 0 ∅ 0 : sProp 𝕄))]
  exact bigSep_mono fun ck _ => (show iprop(roundAuth EM ck 0 ∅ 0 ∗ ledgerAuth EM ck 0 ∅ (fun _ => 0)) ⊢ (roundAuth EM ck 0 ∅ 0 : sProp 𝕄) from by
    iintro ⟨H, -⟩
    iexact H)

theorem fund_ring : iprop(BI.own (ER (initOf ringCells ringToks)) ∗ BI.own (EM (initOf Finset.univ mailToks)))
    ⊢ (|==> bigSep Finset.univ (G m) : sProp 𝕄) := by
  iintro ⟨HX, HM⟩
  imod (Rounds.fund ER (ringRd m) ringCells ringToks) $$ HX with ⟨Hst, Hr, Hat, Htok⟩
  imod (Rounds.fund_init EM Finset.univ mailToks) $$ HM with ⟨Hau, -, Hpost, Htake⟩
  imodintro
  ihave Hst := (Entails.of_eq (cells_eq fun g => roundState ER (ringRd m) g 0)) $$ Hst
  ihave Hr := (Entails.of_eq (cells_eq fun g => reached ER g 0)) $$ Hr
  ihave Hat := (Entails.of_eq (cells_eq fun g => atPos ER g 0 ∅ 0)) $$ Hat
  ihave Htok := (Entails.of_eq toks_eq) $$ Htok
  ihave Htake := (Entails.of_eq takes_eq) $$ Htake
  ihave Hpost := (Entails.of_eq posts_eq) $$ Hpost
  ihave Hau := (auths (F := F)) $$ Hau
  unfold G lin
  simp only [bigSep_sep']
  isplitl [Hst]; · iexact Hst
  isplitl [Hr]; · iexact Hr
  isplitl [Hau]; · iexact Hau
  isplitl [Hat]; · iexact Hat
  isplitl [Hpost]; · iexact Hpost
  isplitl [Htok]; · iexact Htok
  iexact Htake

theorem hu₀ : (ownU u₀ : sProp 𝕄) ⊢ |==> (BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  imod (fund_ring m) $$ H with HG
  imodintro
  isplitl [HP] <;> iassumption

/-! ## The invariants -/

omit [FloatOps F] in
theorem ownSems0_eq (c : Dev nD) : (Pipeline.ownSems0 (Ix := ℕ) (Name := ℕ) (U := UU) (Lvl := ℕ) (Val := Elt F) (τ := τ) osem c : sProp 𝕄)
    = iprop((bigSep Finset.univ fun i => semVal (crCell c i) 0)
      ∗ (bigSep Finset.univ fun i => bigSep Finset.univ fun j => semVal (sdCell c i j) 0)
      ∗ bigSep Finset.univ fun i => bigSep Finset.univ fun j => semVal (rcCell c i j) 0) := by
  unfold Pipeline.ownSems0; rw [own_cells]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

omit [FloatOps F] in
theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, all_cells]
  iintro ⟨H, HB⟩
  isplitl [HB]; · iexact HB
  iexact H

theorem cells_alloc (c : Dev nD) :
    iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) := by
  rw [← bigSep_sep']
  exact (bigSep_mono fun k _ => (Rounds.body_intro ER (ringRd m) (kcell (c, k))).trans inv_alloc).trans (bigSep_fupd _ _)

theorem mail_intro (ck : MK) : (roundAuth EM ck 0 ∅ 0 : sProp 𝕄) ⊢ mail (F := F) ck := by
  unfold mail
  iintro H
  iexists 0
  isplitl [H]; · iexact H
  rw [Finset.range_zero, BI.bigSep_empty]
  iempintro

theorem mails_alloc (c : Dev nD) :
    (bigSep Finset.univ fun i : Fin 4 => roundAuth EM ((c, i) : MK) 0 ∅ 0 : sProp 𝕄)
      ⊢ |={Set.univ}=> bigSep Finset.univ fun i : Fin 4 => iprop(∃ κ : ℕ, inv κ (mail (F := F) (c, i))) :=
  (bigSep_mono fun i _ => (mail_intro (c, i)).trans inv_alloc).trans (bigSep_fupd _ _)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun i : Fin 4 => iprop(∃ κ : ℕ, inv κ (mail (F := F) (c, i))))
          ∗ (bigSep Finset.univ fun k : CK => reached ER (kcell (c, k)) 0) ∗ lin (F := F) c) := by
  unfold G
  iintro ⟨Hos, Hus, Hst, Hr, Hau, Hlin⟩
  ihave Hv := (sems0 (F := F) c) $$ [Hos Hus]
  · isplitl [Hos] <;> iassumption
  imod (cells_alloc m c) $$ [Hv Hst] with HI
  · isplitl [Hv] <;> iassumption
  imod (mails_alloc (F := F) c) $$ Hau with HM
  imodintro
  isplitl [HI]; · iexact HI
  isplitl [HM]; · iexact HM
  isplitl [Hr]; · iexact Hr
  iexact Hlin

theorem regroup :
    (bigSep Finset.univ fun c : Dev nD => iprop((bigSep Finset.univ fun k : CK => iprop(∃ κ : ℕ, cellInv ER (ringRd m) κ (kcell (c, k))))
          ∗ (bigSep Finset.univ fun i : Fin 4 => iprop(∃ κ : ℕ, inv κ (mail (F := F) (c, i))))
          ∗ (bigSep Finset.univ fun k : CK => reached ER (kcell (c, k)) 0) ∗ lin (F := F) c) : sProp 𝕄)
      ⊢ bigSep Finset.univ (G' m) := by
  rw [bigSep_sep', bigSep_sep', bigSep_sep', ← bigSep_univ_prod (fun ck : Dev nD × CK => iprop(∃ κ : ℕ, cellInv ER (ringRd m) κ (kcell ck))),
    ← bigSep_univ_prod (fun ck : MK => iprop(∃ κ : ℕ, inv κ (mail (F := F) ck))),
    ← bigSep_univ_prod (fun ck : Dev nD × CK => (reached ER (kcell ck) 0 : sProp 𝕄))]
  iintro ⟨HI, HM, #HR, Hlin⟩
  ihave HK := (BI.bigSep_exists_pi Finset.univ (fun (ck : Dev nD × CK) (κ : ℕ) => (cellInv ER (ringRd m) κ (kcell ck) : sProp 𝕄))) $$ HI
  icases HK with ⟨%K, #HI⟩
  ihave HK := (BI.bigSep_exists_pi Finset.univ (fun (ck : MK) (κ : ℕ) => (inv κ (mail (F := F) ck) : sProp 𝕄))) $$ HM
  icases HK with ⟨%KM, #HM⟩
  iapply (bigSep_know (R := recs₀ m K KM) (A := lin (F := F)) (B := G' m) fun c _ => by
    unfold G'; iintro ⟨#H, Hl⟩; iexists K; iexists KM; isplitr; · iexact H
    iexact Hl)
  isplitr
  · unfold recs₀
    isplitl; · iexact HI
    isplitl; · iexact HM
    iexact HR
  · iexact Hlin

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credits of a device's cells. -/
def creds (c : Dev nD) : sProp 𝕄 :=
  iprop(cred (tallyAt (barCell c) 0 2) ∗ (bigSep Finset.univ fun i => rcvC (F := F) c i 0)
    ∗ bigSep Finset.univ fun i => bigSep (Finset.Ico 0 12) fun n => cred (tallyAt (crCell c i) (n + 1) 1))

theorem O₁_eq (c : Dev nD) : O₁ c = ∑ i : Fin 4, (∑ t ∈ Finset.Ico 0 15, sdT c i t + ∑ k ∈ Finset.Ico 0 12, crT c i k) := by
  have h (i : Fin 4) : ∑ t ∈ Finset.Ico 0 15, sdT c i t = sdT c i 0 + ∑ t ∈ Finset.Ico (0 + 1) 15, sdT c i t := sum_Ico_head (by decide) _
  unfold O₁ oRest
  simp only [Fin.sum_univ_four, h]
  ac_rfl

omit [FloatOps F] in
theorem launch_sd (c : Dev nD) (i : Fin 4) (t : ℕ) :
    (Pipeline.launchCred (fun d => sdT d i t) c : sProp 𝕄) ⊢ cred (tallyAt (rcCell c i (slot (t + 1))) t N) :=
  Pipeline.launchCred_tallyAt (.dma (semV (rs i) (slot (t + 1)))) (dn i) (up i) (dn_up i) (up_dn i) t N c
omit [FloatOps F] in
theorem launch_cr (c : Dev nD) (i : Fin 4) (k : ℕ) :
    (Pipeline.launchCred (fun d => crT d i k) c : sProp 𝕄) ⊢ cred (tallyAt (crCell c i) (k + 1) 1) :=
  Pipeline.launchCred_tallyAt (.reg (cr i).sem) (up i) (dn i) (up_dn i) (dn_up i) (k + 1) 1 c

omit [FloatOps F] in
theorem launch_sds (c : Dev nD) :
    (bigSep Finset.univ fun i : Fin 4 => bigSep (Finset.Ico 0 15) fun t => Pipeline.launchCred (fun d => sdT d i t) c : sProp 𝕄)
      ⊢ bigSep Finset.univ fun i : Fin 4 => bigSep (Finset.Ico 0 15) fun t => cred (tallyAt (rcCell c i (slot (t + 1))) t N) :=
  bigSep_mono fun i _ => bigSep_mono fun t _ => launch_sd c i t
omit [FloatOps F] in
theorem launch_crs (c : Dev nD) :
    (bigSep Finset.univ fun i : Fin 4 => bigSep (Finset.Ico 0 12) fun k => Pipeline.launchCred (fun d => crT d i k) c : sProp 𝕄)
      ⊢ bigSep Finset.univ fun i : Fin 4 => bigSep (Finset.Ico 0 12) fun k => cred (tallyAt (crCell c i) (k + 1) 1) :=
  bigSep_mono fun i _ => bigSep_mono fun k _ => launch_cr c i k

omit [FloatOps F] in
theorem creds_intro (c : Dev nD) : (Pipeline.launchCred O₀ c : sProp 𝕄) ⊢ creds (F := F) c := by
  have h : (O₀ : Dev nD → CellTallies nD τ sig ℕ) = fun d => (∑ i : Fin 4, (∑ t ∈ Finset.Ico 0 15, sdT d i t + ∑ k ∈ Finset.Ico 0 12, crT d i k))
      + tallyAt (barCell (rt d)) 0 1 + tallyAt (barCell (lf d)) 0 1 := funext fun d => by unfold O₀; rw [O₁_eq]
  rw [h, Pipeline.launchCred_add (fun d => (∑ i : Fin 4, (∑ t ∈ Finset.Ico 0 15, sdT d i t + ∑ k ∈ Finset.Ico 0 12, crT d i k)) + tallyAt (barCell (rt d)) 0 1)
      (fun d => tallyAt (barCell (lf d)) 0 1),
    Pipeline.launchCred_add (fun d => ∑ i : Fin 4, (∑ t ∈ Finset.Ico 0 15, sdT d i t + ∑ k ∈ Finset.Ico 0 12, crT d i k)) (fun d => tallyAt (barCell (rt d)) 0 1),
    Pipeline.launchCred_sum Finset.univ (fun i d => ∑ t ∈ Finset.Ico 0 15, sdT d i t + ∑ k ∈ Finset.Ico 0 12, crT d i k),
    bigSep_congr (s := Finset.univ) (fun (i : Fin 4) _ => (Pipeline.launchCred_add (fun d => ∑ t ∈ Finset.Ico 0 15, sdT d i t) (fun d => ∑ k ∈ Finset.Ico 0 12, crT d i k) c).trans
      (congrArg₂ (fun A B : sProp 𝕄 => iprop(A ∗ B)) (Pipeline.launchCred_sum (Finset.Ico 0 15) (fun t d => sdT d i t) c) (Pipeline.launchCred_sum (Finset.Ico 0 12) (fun k d => crT d i k) c))),
    bigSep_sep']
  have hb (h1 : cred (tallyAt (barCell c) 0 1 + tallyAt (barCell c) 0 1) ⊢ (cred (tallyAt (barCell c) 0 2) : sProp 𝕄)) :
      iprop(cred (tallyAt (barCell c) 0 1) ∗ cred (tallyAt (barCell c) 0 1)) ⊢ (cred (tallyAt (barCell c) 0 2) : sProp 𝕄) :=
    (cred_add _ _).2.trans h1
  unfold creds rcvC
  iintro ⟨⟨⟨H1, H2⟩, HR⟩, HL⟩
  isplitl [HR HL]
  · ihave HR := (Pipeline.launchCred_tallyAt (.reg barS) rt lf rt_lf lf_rt 0 1 c) $$ HR
    ihave HL := (Pipeline.launchCred_tallyAt (.reg barS) lf rt lf_rt rt_lf 0 1 c) $$ HL
    iapply (hb (Entails.of_eq (by rw [tallyAt_add])))
    isplitl [HR] <;> iassumption
  isplitl [H1]
  · iapply (launch_sds (F := F) c); iexact H1
  · iapply (launch_crs (F := F) c); iexact H2

/-! ## What the body starts from -/

omit [FloatOps F] in
theorem all_duties (Φ : TK → sProp 𝕄) :
    bigSep Finset.univ Φ = iprop((Φ (.inl 0) ∗ Φ (.inl 1)) ∗ (bigSep Finset.univ fun i => bigSep (Finset.univ : Finset (Fin 12)) fun n => Φ (.inr (.inl (i, n))))
      ∗ (bigSep Finset.univ fun i => bigSep (Finset.univ : Finset (Fin 15)) fun t => Φ (.inr (.inr (.inl (i, t)))))
      ∗ bigSep Finset.univ fun i => bigSep (Finset.univ : Finset (Fin 15)) fun t => Φ (.inr (.inr (.inr (i, t))))) := by
  rw [bigSep_univ_sum, bigSep_univ_sum, bigSep_univ_sum, bigSep_univ_prod, bigSep_univ_prod, bigSep_univ_prod, two]; rfl

omit [FloatOps F] in
theorem tok_left (c : Dev nD) : tok (F := F) (c, .inl 0) = dutyTok ER (barCell (lf c)) 0 0 := rfl
omit [FloatOps F] in
theorem tok_right (c : Dev nD) : tok (F := F) (c, .inl 1) = dutyTok ER (barCell (rt c)) 0 1 := rfl

omit [FloatOps F] in
theorem toks_intro (c : Dev nD) (i : Fin 4) :
    iprop((bigSep (Finset.univ : Finset (Fin 15)) fun t => tok (F := F) (c, .inr (.inr (.inl (i, t)))))
      ∗ bigSep (Finset.univ : Finset (Fin 15)) fun t => tok (F := F) (c, .inr (.inr (.inr (i, t))))) ⊢ toks (F := F) c i 0 := by
  unfold toks
  rw [bigSep_fin, bigSep_sep']
  exact Entails.of_eq rfl
omit [FloatOps F] in
theorem payC_intro (c : Dev nD) (i : Fin 4) :
    (bigSep (Finset.univ : Finset (Fin 12)) fun n => tok (F := F) (c, .inr (.inl (i, n)))) ⊢ payC (F := F) c i 0 := by
  unfold payC
  rw [bigSep_fin]
  exact Entails.of_eq rfl
omit [FloatOps F] in
theorem crdC_intro (c : Dev nD) (i : Fin 4) :
    iprop((bigSep (Finset.Ico 0 12) fun n => cred (tallyAt (crCell c i) (n + 1) 1)) ∗ bigSep (Finset.univ : Finset (Fin 12)) fun n => dutyTok EM ((c, i) : MK) n.val 0)
      ⊢ crdC (F := F) c i 0 := by
  unfold crdC
  rw [bigSep_sep', bigSep_fin 12 fun n => dutyTok EM ((c, i) : MK) n 0]
omit [FloatOps F] in
theorem crPos_intro (c : Dev nD) (i : Fin 4) : (atPos ER (crCell c i) 0 ∅ 0 : sProp 𝕄) ⊢ crPos (F := F) c i 0 := by
  unfold crPos
  iintro H
  iexists ∅
  isplitr
  · ipureintro; exact ⟨Finset.empty_subset _, Nat.zero_le _⟩
  isplitl [H]; · iexact H
  rw [BI.bigSep_empty]; iempintro

theorem posR_intro (K : Dev nD × CK → ℕ) (KM : MK → ℕ) (c : Dev nD) (i : Fin 4) :
    iprop(recs m K KM ∗ bigSep Finset.univ fun j => atPos ER (rcCell c i j) 0 ∅ 0) ⊢ posR (F := F) c i 0 := by
  unfold posR
  refine bigSep_know fun j _ => ?_
  rw [show rR j 0 = 0 from by unfold rR; omega]
  iintro ⟨#HR, H⟩
  isplitl [H]; · iexact H
  iapply (recs_reached m K KM (c, kRc i j)); iexact HR
theorem posS_intro (K : Dev nD × CK → ℕ) (KM : MK → ℕ) (c : Dev nD) (i : Fin 4) :
    iprop(recs m K KM ∗ bigSep Finset.univ fun j => atPos ER (sdCell c i j) 0 ∅ 0) ⊢ posS (F := F) c i 0 := by
  unfold posS
  refine bigSep_know fun j _ => ?_
  rw [show rS j 0 = 0 from by unfold rS; omega]
  iintro ⟨#HR, H⟩
  isplitl [H]; · iexact H
  iapply (recs_reached m K KM (c, kSd i j)); iexact HR

theorem own_intro (K : Dev nD × CK → ℕ) (KM : MK → ℕ) (c : Dev nD) (i : Fin 4) :
    iprop(recs m K KM ∗ (bigSep Finset.univ fun j => atPos ER (rcCell c i j) 0 ∅ 0) ∗ (bigSep Finset.univ fun j => atPos ER (sdCell c i j) 0 ∅ 0)
      ∗ rcvC (F := F) c i 0
      ∗ (bigSep (Finset.univ : Finset (Fin 15)) fun t => tok (F := F) (c, .inr (.inr (.inl (i, t)))))
      ∗ (bigSep (Finset.univ : Finset (Fin 15)) fun t => tok (F := F) (c, .inr (.inr (.inr (i, t)))))
      ∗ atPos ER (crCell c i) 0 ∅ 0
      ∗ (bigSep (Finset.Ico 0 12) fun n => cred (tallyAt (crCell c i) (n + 1) 1))
      ∗ (bigSep (Finset.univ : Finset (Fin 12)) fun n => dutyTok EM ((c, i) : MK) n.val 0)
      ∗ atPos EM ((up i c, i) : MK) 0 ∅ 0
      ∗ bigSep (Finset.univ : Finset (Fin 12)) fun n => tok (F := F) (c, .inr (.inl (i, n)))) ⊢ own (F := F) c i := by
  unfold own
  iintro ⟨#HR, H1, H2, H3, H4, H5, H6, H7, H8, H9, H10⟩
  isplitl [H1]
  · iapply (posR_intro m K KM c i); isplitr; · iexact HR
    iexact H1
  isplitl [H2]
  · iapply (posS_intro m K KM c i); isplitr; · iexact HR
    iexact H2
  isplitl [H3]; · iexact H3
  isplitl [H4 H5]
  · iapply (toks_intro (F := F) c i); isplitl [H4] <;> iassumption
  isplitl [H6]; · iapply (crPos_intro (F := F) c i); iexact H6
  isplitl [H7 H8]
  · iapply (crdC_intro (F := F) c i); isplitl [H7] <;> iassumption
  isplitl [H9]; · iexact H9
  iapply (payC_intro (F := F) c i); iexact H10

theorem owns_intro (K : Dev nD × CK → ℕ) (KM : MK → ℕ) (c : Dev nD) :
    iprop(recs m K KM ∗ lin (F := F) c ∗ creds (F := F) c) ⊢ iprop(barSt (F := F) c ∗ bigSep Finset.univ fun i => own (F := F) c i) := by
  unfold lin creds barSt
  rw [all_cells, all_duties]
  iintro ⟨#HR, ⟨⟨Hb, Hc, Hs, Hr⟩, Hp, ⟨⟨Ht0, Ht1⟩, Htc, Hts, Htr⟩, Htk⟩, HcB, HcR, HcC⟩
  isplitl [Hb HcB Ht0 Ht1]
  · isplitl [Hb]; · iexact Hb
    isplitl [HcB]; · iexact HcB
    isplitl [Ht0]; · iapply (Entails.of_eq (tok_left (F := F) c)); iexact Ht0
    iapply (Entails.of_eq (tok_right (F := F) c)); iexact Ht1
  iapply (bigSep_know (R := recs m K KM) fun i _ => own_intro m K KM c i)
  isplitr; · iexact HR
  simp only [bigSep_sep']
  isplitl [Hr]; · iexact Hr
  isplitl [Hs]; · iexact Hs
  isplitl [HcR]; · iexact HcR
  isplitl [Hts]; · iexact Hts
  isplitl [Htr]; · iexact Htr
  isplitl [Hc]; · iexact Hc
  isplitl [HcC]; · iexact HcC
  isplitl [Htk]; · iexact Htk
  isplitl [Hp]; · iexact Hp
  iexact Htc

theorem recs_intro (K : Dev nD × CK → ℕ) (KM : MK → ℕ) : iprop(recs₀ m K KM ∗ levAts L lv) ⊢ recs m K KM := by
  unfold recs₀ recs
  iintro ⟨⟨H1, H2, H3⟩, H4⟩
  isplitl [H1]; · iexact H1
  isplitl [H2]; · iexact H2
  isplitl [H3]; · iexact H3
  iexact H4

end Cert.KernelIdeal.Ring

end
-- ==== Proof.Run.lean ====
/-
  The launch: the proof data of the call, the four buffers cut into their slots, and the run of the
  whole program from any memory with zero counters (`run_main`).
-/
module

public import proofs.«01_k».proof.Proof.Deal
public import Idealize.ShloMosaic.Lib.Ring
public import Idealize.ShloMosaic.Lib.Pipeline.CollectiveSegs

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The four slots of a buffer -/

theorem slotR_disjoint {j j' : Fin 4} (h : j ≠ j') : Disjoint (slotR j).set (slotR j').set :=
  Rect.disjoint_of_axis _ _ 0 fun a ha b hb e => h (Fin.ext (by
    have ha' : a < 1 := ha
    have hb' : b < 1 := hb
    have e' : j.val + 1 * a = j'.val + 1 * b := e
    omega))

theorem slotR_cover : (Finset.univ : Finset (Fin 4)).biUnion (fun j => (slotR j).set) = Finset.univ := by
  ext x
  simp only [Finset.mem_biUnion, Finset.mem_univ, true_and, iff_true]
  refine ⟨x 0, (slotR (x 0)).mem_set.mpr fun a => ?_⟩
  match a with
  | 0 => exact ⟨0, Nat.one_pos, by show (x 0).val = (x 0).val + 1 * 0; omega⟩
  | 1 => exact ⟨(x 1).val, (x 1).isLt, by show (x 1).val = 0 + 1 * (x 1).val; omega⟩
  | 2 => exact ⟨(x 2).val, (x 2).isLt, by show (x 2).val = 0 + 1 * (x 2).val; omega⟩

theorem slotV_set (i j : Fin 4) : (slotV (cm i) j).view.set = (slotR j).set.map (cm i).view.emb :=
  (View.set_reshape _ _).trans (View.set_slice _ _)

theorem cm_set (i : Fin 4) : (cm i).view.set = Finset.univ := by
  match i with
  | 0 => exact View.set_whole _
  | 1 => exact View.set_whole _
  | 2 => exact View.set_whole _
  | 3 => exact View.set_whole _

/-- The elements of slot `j` of stream `i`'s buffer on a device. -/
def slotI (c : Dev nD) (i j : Fin 4) : Finset (Idx ((cm i).view.loc (c : Thread nD τ))) := (slotV (cm i) j).view.set

theorem slotI_disjoint (c : Dev nD) (i : Fin 4) (j j' : Fin 4) (h : j ≠ j') : Disjoint (slotI c i j) (slotI c i j') := by
  unfold slotI
  rw [slotV_set, slotV_set]
  exact (Finset.disjoint_map _).mpr (slotR_disjoint h)

theorem slotI_cover (c : Dev nD) (i : Fin 4) : (Finset.univ : Finset (Fin 4)).biUnion (slotI c i) = Finset.univ := by
  refine (Finset.biUnion_congr rfl fun j _ => slotV_set i j).trans (Eq.trans ?_ (cm_set i))
  have h (x : S4x256x512.Idx) : ∃ j, x ∈ (slotR j).set := by
    have hx : x ∈ (Finset.univ : Finset (Fin 4)).biUnion (fun j => (slotR j).set) := slotR_cover ▸ Finset.mem_univ x
    obtain ⟨j, -, hj⟩ := Finset.mem_biUnion.mp hx
    exact ⟨j, hj⟩
  ext x
  constructor
  · intro hx
    obtain ⟨j, -, hx⟩ := Finset.mem_biUnion.mp hx
    obtain ⟨y, -, rfl⟩ := Finset.mem_map.mp hx
    exact (cm i).view.emb_mem_set y
  · intro hx
    obtain ⟨y, -, rfl⟩ := Finset.mem_map.mp hx
    obtain ⟨j, hj⟩ := h y
    exact Finset.mem_biUnion.mpr ⟨j, Finset.mem_univ j, Finset.mem_map_of_mem _ hj⟩

/-- A stream's buffer, whole, at some contents. -/
def bufAny (c : Dev nD) (i : Fin 4) : sProp 𝕄 :=
  iprop(∃ f : Buf (Elt F) ((cm i).view.loc (c : Thread nD τ)), (cm i).view.loc (c : Thread nD τ) ↦{fullShare} f)

omit [FloatOps F] in
theorem slotAny_intro (c : Dev nD) (i j : Fin 4) (f : Buf (Elt F) ((slotV (cm i) j).view.loc (c : Thread nD τ))) :
    slotPts (F := F) c i j f ⊢ slotAny (F := F) c i j := by
  unfold slotAny
  iintro H
  iexists f
  iexact H

omit [FloatOps F] in
theorem buf_split (c : Dev nD) (i : Fin 4) : bufAny (F := F) c i ⊢ bigSep Finset.univ fun j => slotAny (F := F) c i j := by
  unfold bufAny
  iintro ⟨%f, H⟩
  ihave H := (Entails.of_eq (Ring.pointsTo_blocks (slotI c i) (slotI_disjoint c i) (slotI_cover c i) f)) $$ H
  iapply (show (bigSep Finset.univ fun j => ((cm i).view.loc (c : Thread nD τ) ↦[slotI c i j]{fullShare} f : sProp 𝕄))
      ⊢ bigSep Finset.univ fun j => slotAny (F := F) c i j from bigSep_mono fun j _ => slotAny_intro c i j f)
  iexact H

include m in
theorem buf_join (c : Dev nD) (i : Fin 4) : (bigSep Finset.univ fun j => slotAny (F := F) c i j) ⊢ bufAny (F := F) c i :=
  Ring.pointsTo_blocks_join_exists (slotI c i) (slotI_disjoint c i) (slotI_cover c i) (m _)

/-! ## The proof data -/

/-- What device `c`'s body starts from, its buffers apart: -/
def start (c : Dev nD) : sProp 𝕄 := iprop(∃ K KM, recs m K KM ∗ barSt (F := F) c ∗ bigSep Finset.univ fun i => own (F := F) c i)
def Φ₀ (c : Dev nD) : sProp 𝕄 := iprop(start m c ∗ slots (F := F) c)
/-- what it leaves: every cell closed. -/
def Φ₁ (c : Dev nD) : sProp 𝕄 := iprop((bigSep Finset.univ fun i => ended (F := F) c i) ∗ semVal (barCell c) 0)

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => s0stg m c
    | ⟨3, _⟩ => s1stg m c
    | ⟨4, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A staging buffer at the contents it holds, -/
theorem stage_in (c : Dev nD) (b : Ref sig .tc) {Y : b.ty.Contents (Elt F)} (X : Buf (Elt F) ((c : Thread nD τ).loc b)) (h : Y = X) :
    (owns (Ix := ℕ) (Name := ℕ) (U := UU) (Lvl := ℕ) (c : Thread nD τ) (Memref.whole b) fullShare Y : sProp 𝕄) ⊢ ((c : Thread nD τ).loc b) ↦{fullShare} X := by
  rw [owns_whole_eq]
  iintro ⟨%f, %hf, H⟩
  subst hf
  subst h
  iexact H
omit [FloatOps F] in
theorem stage_any (c : Dev nD) (b : Ref sig .tc) (Y : b.ty.Contents (Elt F)) :
    (owns (Ix := ℕ) (Name := ℕ) (U := UU) (Lvl := ℕ) (c : Thread nD τ) (Memref.whole b) fullShare Y : sProp 𝕄) ⊢ ∃ f, ((c : Thread nD τ).loc b) ↦{fullShare} f := by
  rw [owns_whole_eq]
  iintro ⟨%f, -, H⟩
  iexists f
  iexact H
omit [FloatOps F] in
theorem stage_out (c : Dev nD) (b : Ref sig .tc) (X : b.ty.Contents (Elt F)) (f : Buf (Elt F) ((c : Thread nD τ).loc b)) (h : f = X) :
    (((c : Thread nD τ).loc b) ↦{fullShare} f : sProp 𝕄) ⊢ owns (Ix := ℕ) (Name := ℕ) (U := UU) (Lvl := ℕ) (c : Thread nD τ) (Memref.whole b) fullShare X := by
  rw [owns_whole_eq]
  iintro H
  iexists f
  isplitr
  · ipureintro; exact h
  iexact H

theorem body_printed (t : Fin grid0.N) (s : (w : Fin 5) → Fin (win0 w).nbuf) :
    defs₀ (F := F) .tc 0 (t, s) = cc0_body (win0_0.stage (s 0)) (hstage0_0 0) (win0_1.stage (s 1)) (hstage0_1 0) (win0_2.stage (s 2)) (hstage0_2 0) (win0_3.stage (s 3)) (hstage0_3 0) (win0_4.stage (s 4)) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 := rfl
/-- The call's body, as the recursion over the steps. -/
theorem body_at : defs₀ (F := F) .tc 0 (t0_0, cfg0.slots t0_0) = bodyC xM wM s0M s1M oM cm ss rs cr := by
  rw [body_printed, cc0_body_eq, cm, ss, rs, cr]

/-- What the call hands the body, -/
def obPre (c : Dev nD) : sProp 𝕄 := iprop(Φ₀ m c ∗ (dats m 0 c).owesAt 0 t0_0.castSucc
    ∗ (∃ d, owns (c : Thread nD τ) (Memref.whole cc0_stg0_0) fullShare ((dats m 0 c).before (0 : Fin 5) t0_0 d))
    ∗ (∃ d, owns (c : Thread nD τ) (Memref.whole cc0_stg1_0) fullShare ((dats m 0 c).before (1 : Fin 5) t0_0 d))
    ∗ (∃ d, owns (c : Thread nD τ) (Memref.whole cc0_stg2_0) fullShare ((dats m 0 c).before (2 : Fin 5) t0_0 d))
    ∗ (∃ d, owns (c : Thread nD τ) (Memref.whole cc0_stg3_0) fullShare ((dats m 0 c).before (3 : Fin 5) t0_0 d))
    ∗ (∃ d, owns (c : Thread nD τ) (Memref.whole cc0_stg4_0) fullShare ((dats m 0 c).before (4 : Fin 5) t0_0 d)))
/-- and takes back. -/
def obPost (c : Dev nD) : sProp 𝕄 := iprop(Φ₁ (F := F) c ∗ (dats m 0 c).owesAt 0 t0_0.succ
    ∗ owns (c : Thread nD τ) (Memref.whole cc0_stg0_0) fullShare (xstg m c)
    ∗ owns (c : Thread nD τ) (Memref.whole cc0_stg1_0) fullShare (wstg m c)
    ∗ owns (c : Thread nD τ) (Memref.whole cc0_stg2_0) fullShare (s0stg m c)
    ∗ owns (c : Thread nD τ) (Memref.whole cc0_stg3_0) fullShare (s1stg m c)
    ∗ owns (c : Thread nD τ) (Memref.whole cc0_stg4_0) fullShare (outAt m c))

theorem owesAt_start (c : Dev nD) : (dats m 0 c).owesAt 0 t0_0.castSucc ⊢ ow c (O₀ c) := by
  unfold Dat.owesAt Pipeline.owesWithin ow
  iintro ⟨%W, -, H⟩
  iexists W
  iexact H
theorem owesAt_end (c : Dev nD) : ow c 0 ⊢ (dats m 0 c).owesAt 0 t0_0.succ := by
  unfold Dat.owesAt Pipeline.owesWithin ow
  iintro ⟨%W, H⟩
  iexists W
  isplitr
  · ipureintro; exact fun _ _ => Or.inl trivial
  iexact H

theorem bodyEnd_post (c : Dev nD) : bodyEnd m c ⊢ obPost m c := by
  unfold bodyEnd obPost Φ₁ xw sc2
  iintro ⟨He, Hb, Ho, ⟨H0, H1⟩, ⟨H2, H3⟩, H4⟩
  isplitl [He Hb]
  · isplitl [He] <;> iassumption
  isplitl [Ho]; · iapply (owesAt_end m c); iexact Ho
  isplitl [H0]; · iapply (stage_out (F := F) c cc0_stg0_0 (xstg m c) (xstg m c) rfl); iexact H0
  isplitl [H1]; · iapply (stage_out (F := F) c cc0_stg1_0 (wstg m c) (wstg m c) rfl); iexact H1
  isplitl [H2]; · iapply (stage_out (F := F) c cc0_stg2_0 (s0stg m c) (s0stg m c) rfl); iexact H2
  isplitl [H3]; · iapply (stage_out (F := F) c cc0_stg3_0 (s1stg m c) (s1stg m c) rfl); iexact H3
  iapply (stage_out (F := F) c cc0_stg4_0 (outAt m c) (outAt m c) rfl); iexact H4

theorem before_0 (c : Dev nD) (d) : (dats m 0 c).before (0 : Fin 5) t0_0 d = xstg m c := by unfold Dat.before; rw [if_pos (fetch0_0 t0_0)]; rfl
theorem before_1 (c : Dev nD) (d) : (dats m 0 c).before (1 : Fin 5) t0_0 d = wstg m c := by unfold Dat.before; rw [if_pos (fetch0_1 t0_0)]; rfl
theorem before_2 (c : Dev nD) (d) : (dats m 0 c).before (2 : Fin 5) t0_0 d = s0stg m c := by unfold Dat.before; rw [if_pos (fetch0_2 t0_0)]; rfl
theorem before_3 (c : Dev nD) (d) : (dats m 0 c).before (3 : Fin 5) t0_0 d = s1stg m c := by unfold Dat.before; rw [if_pos (fetch0_3 t0_0)]; rfl

theorem body_holds (c : Dev nD) : obPre m c ⊢ wpc c (bodyC xM wM s0M s1M oM cm ss rs cr) fun _ => obPost m c := by
  unfold obPre Φ₀ start
  iintro ⟨⟨⟨%K, %KM, HR, Hb, Hown⟩, Hsl⟩, Ho, ⟨%d0, H0⟩, ⟨%d1, H1⟩, ⟨%d2, H2⟩, ⟨%d3, H3⟩, ⟨%d4, H4⟩⟩
  ihave H0 := (stage_in (F := F) c cc0_stg0_0 (xstg m c) (before_0 m c d0)) $$ H0
  ihave H1 := (stage_in (F := F) c cc0_stg1_0 (wstg m c) (before_1 m c d1)) $$ H1
  ihave H2 := (stage_in (F := F) c cc0_stg2_0 (s0stg m c) (before_2 m c d2)) $$ H2
  ihave H3 := (stage_in (F := F) c cc0_stg3_0 (s1stg m c) (before_3 m c d3)) $$ H3
  ihave H4 := (stage_any (F := F) c cc0_stg4_0 _) $$ H4
  ihave Ho := (owesAt_start m c) $$ Ho
  iapply (sound_body m K KM c (Q := fun _ => obPost m c))
  isplitr []
  · unfold bodyPre xw sc2
    isplitl [HR]; · iexact HR
    isplitl [Hb]; · iexact Hb
    isplitl [Hown]; · iexact Hown
    isplitl [Hsl]; · iexact Hsl
    isplitl [Ho]; · iexact Ho
    isplitl [H0 H1]
    · isplitl [H0] <;> iassumption
    isplitl [H2 H3]
    · isplitl [H2] <;> iassumption
    iexact H4
  · iintro H
    iapply (bodyEnd_post m c)
    iexact H

theorem stg_0 : stage0_0 0 = Memref.whole cc0_stg0_0 := rfl
theorem stg_1 : stage0_1 0 = Memref.whole cc0_stg1_0 := rfl
theorem stg_2 : stage0_2 0 = Memref.whole cc0_stg2_0 := rfl
theorem stg_3 : stage0_3 0 = Memref.whole cc0_stg3_0 := rfl
theorem stg_4 : stage0_4 0 = Memref.whole cc0_stg4_0 := rfl
theorem phi_first (c : Dev nD) : (dats m 0 c).Φ t0_0.castSucc = Φ₀ m c := rfl
theorem phi_last (c : Dev nD) : (dats m 0 c).Φ t0_0.succ = Φ₁ (F := F) c := rfl
theorem after_0 (c : Dev nD) : (dats m 0 c).after (0 : Fin 5) t0_0 = xstg m c := rfl
theorem after_1 (c : Dev nD) : (dats m 0 c).after (1 : Fin 5) t0_0 = wstg m c := rfl
theorem after_2 (c : Dev nD) : (dats m 0 c).after (2 : Fin 5) t0_0 = s0stg m c := rfl
theorem after_3 (c : Dev nD) : (dats m 0 c).after (3 : Fin 5) t0_0 = s1stg m c := rfl
theorem after_4 (c : Dev nD) : (dats m 0 c).after (4 : Fin 5) t0_0 = outAt m c := rfl
set_option maxRecDepth 8000 in
/-- The call's body on one device. -/
theorem body_obligation (c : Dev nD) : BodyObligation (dats m 0 c) (defs₀ (F := F)) 𝒱₀ 0 Set.univ := fun t => by
  rw [fin_N0 t]
  rw [bigSep_W0, bigSep_W0]
  rw [show defs₀ (F := F) .tc cfg0.body (cfg0.bodyArgs t0_0 (cfg0.slots t0_0)) = _ from body_at]
  have H := body_holds m c
  unfold wpc obPre obPost at H
  dsimp only
  rw [stg_0, stg_1, stg_2, stg_3, stg_4, phi_first m c, phi_last m c, after_0 m c, after_1 m c, after_2 m c,
    after_3 m c, after_4 m c]
  refine BIBase.Entails.trans ?_ (BIBase.Entails.trans H ?_)
  · exact BIBase.Entails.rfl
  · generalize bodyC (F := F) xM wM s0M s1M oM cm ss rs cr = K
    exact BIBase.Entails.rfl

/-! ## The launch -/

theorem ownSemFacts : Pipeline.OwnSemFacts cfg0.spec osem := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, %KM, HR, Hlin⟩⟩
  ihave Hc := (creds_intro (F := F) c) $$ Hcr
  ihave #HR := (recs_intro m K KM) $$ [HR Hlev]
  · isplitl [HR] <;> iassumption
  ihave Hown := (owns_intro m K KM c) $$ [Hlin Hc]
  · isplitr; · iexact HR
    isplitl [Hlin] <;> iassumption
  icases Hown with ⟨Hb, Hown⟩
  imodintro
  unfold start
  isplitl
  · iexists K; iexists KM
    isplitr; · iexact HR
    isplitl [Hb] <;> iassumption
  · iempintro

omit [FloatOps F] in
theorem bufs_eq (c : Dev nD) : (Pipeline.scopedRest (Ix := ℕ) (Name := ℕ) (U := UU) (Lvl := ℕ) (Val := Elt F) cfg0.spec c : sProp 𝕄)
    = bigSep Finset.univ fun i => bufAny (F := F) c i := by
  rw [scopedRest0_eq, four]; rfl

omit [FloatOps F] in
theorem bufs_split (c : Dev nD) : (bigSep Finset.univ fun i => bufAny (F := F) c i)
    ⊢ bigSep Finset.univ fun i => bigSep Finset.univ fun j => slotAny (F := F) c i j := bigSep_mono fun i _ => buf_split (F := F) c i

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀ slots
  iintro ⟨Hs, -, Hr⟩
  isplitl [Hs]; · iexact Hs
  iapply (bufs_split (F := F) c); iexact Hr

include m in
theorem bufs_join (c : Dev nD) : (bigSep Finset.univ fun i => bigSep Finset.univ fun j => slotAny (F := F) c i j)
    ⊢ bigSep Finset.univ fun i => bufAny (F := F) c i := bigSep_mono fun i _ => buf_join m c i

include m in
theorem ended_split (c : Dev nD) : (bigSep Finset.univ fun i => ended (F := F) c i)
    ⊢ iprop(Pipeline.ownSems0 osem c ∗ bigSep Finset.univ fun i => bufAny (F := F) c i) := by
  unfold ended
  rw [ownSems0_eq]
  simp only [bigSep_sep']
  iintro ⟨H1, H2, H3, H4⟩
  isplitl [H1 H2 H3]
  · isplitl [H1]; · iexact H1
    isplitl [H2] <;> iassumption
  iapply (bufs_join m c); iexact H4

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, bufs_eq, unscopedSems0_eq]
  unfold Φ₁
  iintro ⟨He, HB⟩
  isplitl [HB]; · iexact HB
  iapply (ended_split m c); iexact He

theorem stage_free : ∀ (w : Fin cfg0.W) (s : Fin (cfg0.win w).nbuf) (k : CK), csem k ≠ SemLoc.dma ((cfg0.win w).sem s) := by decide +kernel

theorem mayWait_stage (c : Dev nD) (w : Fin cfg0.W) (s : Fin (cfg0.win w).nbuf) (O : CellTallies nD τ sig ℕ) (hO : Above 0 O) :
    (levAts L lv : sProp 𝕄) ⊢ MayWait (c : Thread nD τ) (.dma ((cfg0.win w).sem s)) 0 O :=
  mayWait_of (b := 0) (by decide) (by unfold lv; rw [show kind _ = none from kind_none (stage_free w s)]) hO

theorem waits (c : Dev nD) : (levAts L lv : sProp 𝕄) ⊢ Pipeline.cellsWaits cfgs (dats m) 0 0 c :=
  Pipeline.cellsWaits_intro cfgs (dats m) 0 0 c fun w s t =>
    mayWait_stage c w s _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair execution of the program on the sixteen devices terminates; the
    arrays end at the contents computed, every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      imod (hu₀ m) $$ Hu with H
      imodintro
      iexact H)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Results.lean ====
/-
  What the run leaves: on every device the result at `outAt`, the four arguments as they were, every counter at zero.
-/
module

public import proofs.«01_k».proof.Proof.Run

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- An argument's array is only read. -/
theorem arg_kept (c : Dev nD) (w : Fin 5) (h : (cfg0.win w).isOut = false) : finalA m c w = m ((cfg0.win w).arr.view.loc (c : Thread nD τ)) :=
  (dats m 0 c).arrAt_in w h _

/-- The result's array is one block, which the call writes whole. -/
theorem flushed_out (c : Dev nD) (t : Fin cfg0.N) :
    (dats m 0 c).flushed (4 : Fin 5) t = ((cfg0.win (4 : Fin 5)).blk t).view.read (Elt F) (outAt m c) := by
  obtain rfl := fin_N0 t
  unfold Pipeline.Dat.flushed
  rw [after_4]
  generalize outAt m c = G
  funext x
  rw [View.read_apply]
  refine Eq.trans ?_ (cast_eq _ _).symm
  refine congrArg G ?_
  funext a
  refine Fin.ext ?_
  show (x a).val = ((win0_4.rect t0_0).emb x a : Nat)
  rw [Pipeline.Window.rect_emb_val_of_index_zero win0_4 t0_0 a (by revert a; decide +kernel)]

theorem cover_out (i : S256x2048.Idx) : ∃ t : Fin cfg0.N, (cfg0.win (4 : Fin 5)).flush t = true ∧ i ∈ ((cfg0.win (4 : Fin 5)).blk t).view.set := by
  refine ⟨t0_0, flush0_4 _, ?_⟩
  show i ∈ ((View.whole main_v1).slice (win0_4.rect t0_0)).set
  rw [View.set_slice_whole, Rect.mem_set_unit]
  have h0 : (i 0 : Nat) < 256 := (i 0).isLt
  have h1 : (i 1 : Nat) < 2048 := (i 1).isLt
  intro a
  match a with
  | ⟨0, _⟩ => exact ⟨Nat.zero_le _, by show (i 0 : Nat) < 0 + 256; omega⟩
  | ⟨1, _⟩ => exact ⟨Nat.zero_le _, by show (i 1 : Nat) < 0 + 2048; omega⟩

theorem written (c : Dev nD) : finalA m c (4 : Fin 5) = outAt m c :=
  (dats m 0 c).arrAt_eq_of_cover (4 : Fin 5) (outAt m c) (fun t _ => flushed_out m c t) cover_out

theorem run_out : θ_run defs (onTc (τ := τ) (main (F := F))) ⟨m, fun _ => 0, ρ⟩ fun r =>
    (∀ c : Dev nD, r.2.mem ((c.tc : Thread nD τ).loc main_v1) = outAt m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono
    (fun r h => ⟨fun c => ⟨(h.1 c (4 : Fin 5)).trans (written m c), (h.1 c (0 : Fin 5)).trans (arg_kept m c 0 rfl),
      (h.1 c (1 : Fin 5)).trans (arg_kept m c 1 rfl), (h.1 c (2 : Fin 5)).trans (arg_kept m c 2 rfl),
      (h.1 c (3 : Fin 5)).trans (arg_kept m c 3 rfl)⟩, h.2⟩)
    (run_main m ρ)

end Cert.KernelIdeal.Ring

end
-- ==== Proof.Reference.lean ====
/-
  The reference: a straight line of host operations on one device.  Its run, its result as a function of the
  four arguments (`refOut`), and the arguments unchanged.
-/
module

public import Idealize.ShloMosaic.Lib.StableHlo.Run
public import Idealize.ShloMosaic.Lib.Quiescent
public import proofs.«01_k».proof.Proof.Gen.ReferenceIdeal

@[expose] public section

noncomputable section

namespace Cert.ReferenceIdeal.Line

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev steps : List (HloOp τ sig (Elt F)) :=
  [ unary main_arg0 main_v0 (extsi 32 · natLt_8_32),
    unary main_v0 main_v1 (sitofp .f32),
    unary main_arg1 main_v2 (extsi 32 · natLt_8_32),
    unary main_v2 main_v3 (sitofp .f32),
    binary main_v1 main_v3 main_v4 (fun l r => Host.dotGeneral dot_S4096x4096_S4096x2048_S4096x2048_1_0_0_1_n_n none l r),
    binary main_arg2 main_arg3 main_v5 mulf,
    unary main_v5 main_v6 (broadcastInDim S1x1 ![1] bcast_S1_S1x1_1),
    unary main_v6 main_v7 (broadcastInDim S4096x2048 ![0, 1] bcast_S1x1_S4096x2048_0_1),
    binary main_v4 main_v7 main_v8 mulf,
    nullary main_cst (constant S_ .f32 0x00000000#32),
    unary main_cst main_v9 (broadcastInDim S4096x2048 ![] bcast_S_S4096x2048),
    binary main_v8 main_v9 main_v10 maximumf ]

theorem main_steps (c : Dev nD) : main (F := F) c = seq steps := rfl

/-- The result, of the two matrices and the two scales. -/
def refOut (x : (⟨S4096x4096, .i8⟩ : BufTy).Contents (Elt F)) (w : (⟨S4096x2048, .i8⟩ : BufTy).Contents (Elt F))
    (a b : (⟨S1, .f32⟩ : BufTy).Contents (Elt F)) : (⟨S4096x2048, .f32⟩ : BufTy).Contents (Elt F) :=
  maximumf
    (mulf
      (Host.dotGeneral dot_S4096x4096_S4096x2048_S4096x2048_1_0_0_1_n_n none (sitofp .f32 (extsi 32 x natLt_8_32))
        (sitofp .f32 (extsi 32 w natLt_8_32)))
      (broadcastInDim S4096x2048 ![0, 1] bcast_S1x1_S4096x2048_0_1 (broadcastInDim S1x1 ![1] bcast_S1_S1x1_1 (mulf a b))))
    (broadcastInDim S4096x2048 ![] bcast_S_S4096x2048 (constant S_ .f32 0x00000000#32))

theorem after_out (V : Valuation τ sig (Elt F)) :
    after steps V (main_v10 : DevRef τ sig)
      = refOut (V (main_arg0 : DevRef τ sig)) (V (main_arg1 : DevRef τ sig)) (V (main_arg2 : DevRef τ sig)) (V (main_arg3 : DevRef τ sig)) := by
  after_results
  rfl
theorem after_arg0 (V : Valuation τ sig (Elt F)) : after steps V (main_arg0 : DevRef τ sig) = V (main_arg0 : DevRef τ sig) := by after_results
theorem after_arg1 (V : Valuation τ sig (Elt F)) : after steps V (main_arg1 : DevRef τ sig) = V (main_arg1 : DevRef τ sig) := by after_results
theorem after_arg2 (V : Valuation τ sig (Elt F)) : after steps V (main_arg2 : DevRef τ sig) = V (main_arg2 : DevRef τ sig) := by after_results
theorem after_arg3 (V : Valuation τ sig (Elt F)) : after steps V (main_arg3 : DevRef τ sig) = V (main_arg3 : DevRef τ sig) := by after_results

theorem no_scopedRefs : (Finset.univ.filter fun b : Ref sig .tc => b.isScoped) = ∅ := by decide
theorem no_scopedSems : (Finset.univ.filter fun sm : SemLoc sig => sm.isScoped .tc) = ∅ := by decide

theorem steps_sub : (steps : List (HloOp τ sig (Elt F))).Forall fun op => op.bufs ⊆ tcRefs τ sig :=
  ⟨unary_bufs_sub .., unary_bufs_sub .., unary_bufs_sub .., unary_bufs_sub .., binary_bufs_sub .., binary_bufs_sub ..,
    unary_bufs_sub .., unary_bufs_sub .., binary_bufs_sub .., nullary_bufs_sub .., unary_bufs_sub .., binary_bufs_sub ..⟩

/-- The reference terminates with its result at `refOut` of its arguments, the arguments as they were, every counter at zero. -/
theorem run_line (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v10)
          = refOut (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono
    (fun r h => ⟨fun c => ⟨(h c main_v10).trans (after_out _), (h c main_arg0).trans (after_arg0 _), (h c main_arg1).trans (after_arg1 _),
      (h c main_arg2).trans (after_arg2 _), (h c main_arg3).trans (after_arg3 _)⟩, sem_eq_zero_of_no_sems (by decide) r.2⟩)
    (run_seq no_scopedRefs no_scopedSems defs main (fun _ => steps) main_steps (fun _ => steps_sub) m ρ)

end Cert.ReferenceIdeal.Line

end
-- ==== Proof.Sums.lean ====
/-
  What the ring adds up.  A product of blocks at an entry is a sum of products of integers; a message is such a sum
  over the devices it went through; the last message and the device's own product are the sum over all devices, which
  a 32-bit word holds without wrap-around.
-/
module

public import proofs.«01_k».proof.Proof.Finish
public import Idealize.ShloMosaic.Lib.IntMxu
public import Idealize.ShloMosaic.Lib.ValueIdxCore

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.ValueIdx

variable (m : (ℓ : Loc nD τ sig) → Buf (Elt F) ℓ)

/-! ## The staged operands are the arguments -/

theorem xstg_eq (c : Dev nD) (x : S4096x256.Idx) : xstg m c x = m ((c : Thread nD τ).loc main_arg0) x := by
  unfold xstg
  rw [View.read_apply]
  refine congrArg (m ((c : Thread nD τ).loc main_arg0)) (funext fun a => Fin.ext ?_)
  exact Pipeline.Window.rect_emb_val_of_index_zero win0_0 t0_0 a (by revert a; decide +kernel) x

theorem wstg_eq (c : Dev nD) (x : S256x2048.Idx) : wstg m c x = m ((c : Thread nD τ).loc main_arg1) x := by
  unfold wstg
  rw [View.read_apply]
  refine congrArg (m ((c : Thread nD τ).loc main_arg1)) (funext fun a => Fin.ext ?_)
  exact Pipeline.Window.rect_emb_val_of_index_zero win0_1 t0_0 a (by revert a; decide +kernel) x

theorem s0stg_eq (c : Dev nD) (x : S1.Idx) : s0stg m c x = m ((c : Thread nD τ).loc main_arg2) x := by
  unfold s0stg
  rw [View.read_apply]
  refine congrArg (m ((c : Thread nD τ).loc main_arg2)) (funext fun a => Fin.ext ?_)
  exact Pipeline.Window.rect_emb_val_of_index_zero win0_2 t0_0 a (by revert a; decide +kernel) x

theorem s1stg_eq (c : Dev nD) (x : S1.Idx) : s1stg m c x = m ((c : Thread nD τ).loc main_arg3) x := by
  unfold s1stg
  rw [View.read_apply]
  refine congrArg (m ((c : Thread nD τ).loc main_arg3)) (funext fun a => Fin.ext ?_)
  exact Pipeline.Window.rect_emb_val_of_index_zero win0_3 t0_0 a (by revert a; decide +kernel) x

/-! ## One product of blocks -/

/-- The product of two blocks, the sum of products of integers taken as a word. -/
theorem prodOf_apply (xb : Vec F S256x256 .i8) (wb : Vec F S256x1024 .i8) (a : Fin 256) (b : Fin 1024) :
    prodOf (F := F) xb wb (ix2 a b)
      = BitVec.ofInt 32 (∑ k : Fin 256, BitVec.toInt (n := 8) (xb (ix2 a k)) * BitVec.toInt (n := 8) (wb (ix2 k b))) := by
  unfold prodOf
  rw [shapeCast_self, shapeCast_self]
  refine (matmulI8_exact_of_numel _ _ _ _ _ _ rfl (by decide)).trans (congrArg (BitVec.ofInt 32) ?_)
  unfold dotI8
  rw [← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have hl : dot_S256x256_S256x1024_S256x1024_1_0_0_1_n_n.lhsIdx (ix2 a b)
      ((contrEquiv1 dot_S256x256_S256x1024_S256x1024_1_0_0_1_n_n 256 rfl rfl).symm k) = ix2 a k := by
    funext t
    refine Fin.ext ?_
    match t with
    | ⟨0, _⟩ => rfl
    | ⟨1, _⟩ => exact hk
  have hr : dot_S256x256_S256x1024_S256x1024_1_0_0_1_n_n.rhsIdx (ix2 a b)
      ((contrEquiv1 dot_S256x256_S256x1024_S256x1024_1_0_0_1_n_n 256 rfl rfl).symm k) = ix2 k b := by
    funext t
    refine Fin.ext ?_
    match t with
    | ⟨0, _⟩ => exact hk
    | ⟨1, _⟩ => rfl
  rw [hl, hr]

/-! ## The part of one device in a block of rows -/

/-- Row `a` of block `b`. -/
def rowIx (b : Dev nD) (a : Fin 256) : Fin 4096 := ⟨256 * b.val + a.val, by have h1 : b.val < 16 := b.isLt; have := a.isLt; omega⟩
theorem outOff_lt (i : Fin 4) : outOff i 1 + 512 ≤ 2048 := by revert i; decide
/-- Column `b` of a stream. -/
def colIx (i : Fin 4) (b : Fin 512) : Fin 2048 := ⟨outOff i 1 + b.val, by have := outOff_lt i; have := b.isLt; omega⟩

/-- What device `d` adds to an entry: its columns of the left matrix times its rows of the right one. -/
def part (d : Dev nD) (r : Fin 4096) (q : Fin 2048) : ℤ :=
  ∑ k : Fin 256, BitVec.toInt (n := 8) (m ((d : Thread nD τ).loc main_arg0) (ix2 r k))
    * BitVec.toInt (n := 8) (m ((d : Thread nD τ).loc main_arg1) (ix2 k q))

/-- The offset of the columns a stream's product is taken from. -/
def prodOff : Fin 4 → Fin 2 → ℕ := sel4 ![0, 0] ![0, 1024] ![0, 0] ![0, 1024]

theorem off_split (i : Fin 4) : outOff i 1 = prodOff i 1 + halfOff i 1 ∧ halfOff i 0 = 0 ∧ prodOff i 0 = 0 := by revert i; decide

/-- A block of the products at an entry, for the offsets of the two blocks read. -/
theorem chunk_apply (i : Fin 4) (c b : Dev nD) (off : Fin 2 → ℕ) (woff : Fin 2 → ℕ) (h) (hw)
    (ho : off = ![256 * b.val, 0]) (hwo : woff = prodOff i) (y : S256x512.Idx) :
    chunkOf i (prodOf (F := F)
        (xM.view.readAt (Elt F) (Rect.unit (s := S4096x256) off S256x256.size h).toLoadRect (xstg m c))
        (wM.view.readAt (Elt F) (Rect.unit (s := S256x2048) woff S256x1024.size hw).toLoadRect (wstg m c))) y
      = BitVec.ofInt 32 (part m c (rowIx b (y 0)) (colIx i (y 1))) := by
  subst ho hwo
  have hs := off_split i
  have hb : halfOff i 1 + 512 ≤ 1024 := by revert i; decide
  have h1 : (y 1).val < 512 := (y 1).isLt
  have hj : chunkOf i (prodOf (F := F)
        (xM.view.readAt (Elt F) (Rect.unit (s := S4096x256) ![256 * b.val, 0] S256x256.size h).toLoadRect (xstg m c))
        (wM.view.readAt (Elt F) (Rect.unit (s := S256x2048) (prodOff i) S256x1024.size hw).toLoadRect (wstg m c))) y
      = prodOf (F := F)
        (xM.view.readAt (Elt F) (Rect.unit (s := S4096x256) ![256 * b.val, 0] S256x256.size h).toLoadRect (xstg m c))
        (wM.view.readAt (Elt F) (Rect.unit (s := S256x2048) (prodOff i) S256x1024.size hw).toLoadRect (wstg m c))
        (ix2 (y 0) ⟨halfOff i 1 + (y 1).val, by omega⟩) := by
    unfold chunkOf extractStridedSlice
    refine congrArg _ (funext fun a => Fin.ext ?_)
    match a with
    | ⟨0, _⟩ => show halfOff i 0 + (y 0).val = (y 0).val; rw [hs.2.1]; omega
    | ⟨1, _⟩ => rfl
  refine hj.trans ((prodOf_apply _ _ (y 0) ⟨halfOff i 1 + (y 1).val, by omega⟩).trans ?_)
  refine congrArg (BitVec.ofInt 32) (Finset.sum_congr rfl fun k _ => ?_)
  refine congrArg₂ (· * ·) (congrArg (BitVec.toInt (n := 8)) ((xstg_eq m c _).trans (congrArg _ ?_)))
    (congrArg (BitVec.toInt (n := 8)) ((wstg_eq m c _).trans (congrArg _ ?_)))
  · funext a
    refine Fin.ext ?_
    match a with
    | ⟨0, _⟩ => show 256 * b.val + 1 * (y 0).val = 256 * b.val + (y 0).val; omega
    | ⟨1, _⟩ => show 0 + 1 * k.val = k.val; omega
  · funext a
    refine Fin.ext ?_
    match a with
    | ⟨0, _⟩ => show prodOff i 0 + 1 * k.val = k.val; rw [hs.2.2]; omega
    | ⟨1, _⟩ => show prodOff i 1 + 1 * (halfOff i 1 + (y 1).val) = outOff i 1 + (y 1).val; rw [hs.1]; omega

/-! ## The blocks a stream goes through -/

theorem off1_eq : ∀ (c : Dev nD) (s : Fin 15), k0_off1 c (BitVec.ofNat 32 s.val) = ![256 * (lf^[s.val + 1] c).val, 0] := by decide +kernel
theorem off2_eq : ∀ (c : Dev nD) (s : Fin 15), k0_off2 c (BitVec.ofNat 32 s.val) = ![256 * (rt^[s.val + 1] c).val, 0] := by decide +kernel
theorem off3_eq : ∀ c : Dev nD, k0_off3 c = ![256 * c.val, 0] := by decide +kernel

/-- Step `s` of a stream works on the block of the device `s + 1` places up the ring. -/
theorem chunkAt_apply (i : Fin 4) (c : Dev nD) (s : Fin 15) (y : S256x512.Idx) :
    chunkAt m i c s y = BitVec.ofInt 32 (part m c (rowIx ((up i)^[s.val + 1] c) (y 0)) (colIx i (y 1))) := by
  match i with
  | 0 => rw [chunkAt, sel4_0, prodR]; exact chunk_apply m 0 c _ _ _ _ _ (off1_eq c s) rfl y
  | 1 => rw [chunkAt, sel4_1, prodL]; exact chunk_apply m 1 c _ _ _ _ _ (off2_eq c s) rfl y
  | 2 => rw [chunkAt, sel4_2, prodR]; exact chunk_apply m 2 c _ _ _ _ _ (off1_eq c s) rfl y
  | 3 => rw [chunkAt, sel4_3, prodL]; exact chunk_apply m 3 c _ _ _ _ _ (off2_eq c s) rfl y

theorem ownChunk_apply (i : Fin 4) (c : Dev nD) (y : S256x512.Idx) :
    ownChunk m i c y = BitVec.ofInt 32 (part m c (rowIx c (y 0)) (colIx i (y 1))) := by
  match i with
  | 0 => rw [ownChunk, sel4_0, ownR]; exact chunk_apply m 0 c _ _ _ _ _ (off3_eq c) rfl y
  | 1 => rw [ownChunk, sel4_1, ownL]; exact chunk_apply m 1 c _ _ _ _ _ (off3_eq c) rfl y
  | 2 => rw [ownChunk, sel4_2, ownR]; exact chunk_apply m 2 c _ _ _ _ _ (off3_eq c) rfl y
  | 3 => rw [ownChunk, sel4_3, ownL]; exact chunk_apply m 3 c _ _ _ _ _ (off3_eq c) rfl y

/-! ## The messages -/

/-- Message `n` carries the parts of the `n + 1` devices it went through. -/
theorem msg_apply (i : Fin 4) (n : ℕ) (hn : n < 15) (c : Dev nD) (y : S256x512.Idx) :
    msg m i n c y = BitVec.ofInt 32 (∑ t ∈ Finset.range (n + 1), part m ((up i)^[t] c) (rowIx ((up i)^[n + 1] c) (y 0)) (colIx i (y 1))) := by
  induction n generalizing c with
  | zero =>
    rw [Finset.sum_range_one]
    exact chunkAt_apply m i c (fin15 0) y
  | succ n ih =>
    have hf : (fin15 (n + 1)).val = n + 1 := Nat.mod_eq_of_lt hn
    show msg m i n (up i c) y + chunkAt m i c (fin15 (n + 1)) y = _
    rw [ih (by omega), chunkAt_apply, hf, ← BitVec.ofInt_add, Finset.sum_range_succ' _ (n + 1)]
    rfl

theorem lf_round : ∀ c : Dev nD, lf^[16] c = c := by decide +kernel
theorem rt_round : ∀ c : Dev nD, rt^[16] c = c := by decide +kernel
theorem up_round (i : Fin 4) (c : Dev nD) : (up i)^[16] c = c := by
  match i with
  | 0 => exact lf_round c
  | 1 => exact rt_round c
  | 2 => exact lf_round c
  | 3 => exact rt_round c
theorem lf_orbit : ∀ c d : Dev nD, ∃ t : Fin 16, lf^[t.val] c = d := by decide +kernel
theorem rt_orbit : ∀ c d : Dev nD, ∃ t : Fin 16, rt^[t.val] c = d := by decide +kernel
/-- Sixteen steps up the ring meet every device once. -/
theorem up_orbit (i : Fin 4) (c : Dev nD) : Function.Bijective fun t : Fin 16 => ((up i)^[t.val] c : Dev nD) := by
  have hs : Function.Surjective fun t : Fin 16 => ((up i)^[t.val] c : Dev nD) := fun d => by
    match i with
    | 0 => exact lf_orbit c d
    | 1 => exact rt_orbit c d
    | 2 => exact lf_orbit c d
    | 3 => exact rt_orbit c d
  exact (Fintype.bijective_iff_surjective_and_card _).mpr ⟨hs, rfl⟩

/-- The last message and the device's own part: the sum over all devices. -/
theorem total_apply (i : Fin 4) (c : Dev nD) (y : S256x512.Idx) :
    addi (msg m i 14 (up i c)) (ownChunk m i c) y = BitVec.ofInt 32 (∑ d : Dev nD, part m d (rowIx c (y 0)) (colIx i (y 1))) := by
  have hr : (up i)^[14 + 1] (up i c) = c := up_round i c
  show msg m i 14 (up i c) y + ownChunk m i c y = _
  rw [msg_apply m i 14 (by decide), ownChunk_apply, hr, ← BitVec.ofInt_add]
  refine congrArg (BitVec.ofInt 32) ?_
  rw [← Fintype.sum_bijective _ (up_orbit i c) (fun t : Fin 16 => part m ((up i)^[t.val] c) (rowIx c (y 0)) (colIx i (y 1))) _ (fun _ => rfl),
    Fin.sum_univ_eq_sum_range (fun t => part m ((up i)^[t] c) (rowIx c (y 0)) (colIx i (y 1))) 16, Finset.sum_range_succ' _ 15]
  rfl

/-! ## No wrap-around -/

theorem term_le (x y : BitVec 8) : |x.toInt * y.toInt| ≤ 2 ^ 14 := by
  have hx := natAbs_toInt_i8_le x
  have hy := natAbs_toInt_i8_le y
  have h := Nat.mul_le_mul hx hy
  rw [← Int.natAbs_mul] at h
  rw [Int.abs_eq_natAbs]
  omega

theorem part_le (d : Dev nD) (r : Fin 4096) (q : Fin 2048) : |part m d r q| ≤ 2 ^ 22 := by
  unfold part
  refine (Finset.abs_sum_le_sum_abs _ _).trans ((Finset.sum_le_card_nsmul _ _ (2 ^ 14) fun k _ => term_le _ _).trans ?_)
  rw [Finset.card_univ, Fintype.card_fin]
  decide

theorem total_le (r : Fin 4096) (q : Fin 2048) : |∑ d : Dev nD, part m d r q| ≤ 2 ^ 26 := by
  refine (Finset.abs_sum_le_sum_abs _ _).trans ((Finset.sum_le_card_nsmul _ _ (2 ^ 22) fun k _ => part_le m _ _ _).trans ?_)
  rw [Finset.card_univ, Fintype.card_fin]
  decide

/-- The word holds the sum over the devices itself. -/
theorem total_toInt (i : Fin 4) (c : Dev nD) (y : S256x512.Idx) :
    BitVec.toInt (addi (msg m i 14 (up i c)) (ownChunk m i c) y) = ∑ d : Dev nD, part m d (rowIx c (y 0)) (colIx i (y 1)) := by
  rw [total_apply]
  have h := total_le m (rowIx c (y 0)) (colIx i (y 1))
  generalize ∑ d : Dev nD, part m d (rowIx c (y 0)) (colIx i (y 1)) = T at h ⊢
  rw [abs_le] at h
  rw [BitVec.toInt_ofInt]
  refine Int.bmod_eq_of_le ?_ ?_ <;> omega

end Cert.KernelIdeal.Ring

end
-- ==== Proof.RefValue.lean ====
/-
  The reference's result at an entry, over the reals: the sum over all columns of the products of integers, scaled,
  its negative values cut off.
-/
module

public import proofs.«01_k».proof.Proof.Reference
public import Idealize.ShloMosaic.Lib.StackMember

@[expose] public section

noncomputable section

namespace Cert.ReferenceIdeal.Line

open Cert.ReferenceIdeal Cert.ReferenceIdeal.Gen
open Idealize.ShloMosaic Idealize.ShloMosaic.ValueIdx

/-- An integer among the extended reals. -/
def real (n : ℤ) : EReal := ((n : ℝ) : EReal)

theorem real_mul (a b : ℤ) : real (a * b) = real a * real b := by
  unfold real
  rw [Int.cast_mul, EReal.coe_mul]

theorem real_sum {ι : Type} (s : Finset ι) (f : ι → ℤ) : real (∑ i ∈ s, f i) = ∑ i ∈ s, real (f i) := by
  classical
  induction s using Finset.induction_on with
  | empty => unfold real; rw [Finset.sum_empty, Finset.sum_empty, Int.cast_zero, EReal.coe_zero]
  | insert a s h ih =>
    rw [Finset.sum_insert h, Finset.sum_insert h, ← ih]
    unfold real
    rw [Int.cast_add, EReal.coe_add]

/-- There is one index to one element. -/
theorem one_ix (x y : S1.Idx) : x = y := by
  funext a
  match a with
  | ⟨0, _⟩ =>
    have hx : (x 0).val < 1 := (x 0).isLt
    have hy : (y 0).val < 1 := (y 0).isLt
    exact Fin.ext (by show (x 0).val = (y 0).val; omega)

/-- A widened integer as a real is the integer as a real. -/
theorem widened {s : Shape} (x : s.Idx → BitVec 8) (j : s.Idx) :
    (sitofp .f32 (extsi 32 x natLt_8_32) : FVec Ideal s .f32) j = real (x j).toInt := by
  show real (BitVec.toInt ((x j).signExtend 32)) = _
  rw [BitVec.toInt_signExtend_of_le (by decide)]

theorem dot_apply (x : S4096x4096.Idx → BitVec 8) (w : S4096x2048.Idx → BitVec 8) (r : Fin 4096) (q : Fin 2048) :
    Host.dotGeneral (F := Ideal) dot_S4096x4096_S4096x2048_S4096x2048_1_0_0_1_n_n none (sitofp .f32 (extsi 32 x natLt_8_32))
        (sitofp .f32 (extsi 32 w natLt_8_32)) (ix2 r q)
      = real (∑ k : Fin 4096, (x (ix2 r k)).toInt * (w (ix2 k q)).toInt) := by
  refine (StackMember.dotGeneral_plain_apply (m := 4096) (n := 2048) (k := 4096) none _ _ r q).trans ?_
  rw [real_sum]
  exact Finset.sum_congr rfl fun k _ => (congrArg₂ (· * ·) (widened x _) (widened w _)).trans (real_mul _ _).symm

theorem refOut_apply (x : S4096x4096.Idx → BitVec 8) (w : S4096x2048.Idx → BitVec 8) (a b : S1.Idx → EReal) (j : S1.Idx)
    (r : Fin 4096) (q : Fin 2048) :
    refOut (F := Ideal) x w a b (ix2 r q)
      = FloatOps.maximumf (F := Ideal) (φ := .f32)
          (FloatOps.mulf (F := Ideal) (φ := .f32) (real (∑ k : Fin 4096, (x (ix2 r k)).toInt * (w (ix2 k q)).toInt))
            (FloatOps.mulf (F := Ideal) (φ := .f32) (a j) (b j)))
          (Scalar.ofBits (F := Ideal) .f32 0x00000000#32) := by
  rw [← dot_apply]
  unfold refOut
  refine congrArg₂ (FloatOps.maximumf (F := Ideal) (φ := .f32)) (congrArg₂ (FloatOps.mulf (F := Ideal) (φ := .f32)) rfl ?_) rfl
  exact congrArg (fun i : S1.Idx => FloatOps.mulf (F := Ideal) (φ := .f32) (a i) (b i)) (one_ix _ j)

end Cert.ReferenceIdeal.Line

end
-- ==== Proof.Values.lean ====
/-
  The kernel's result over the reals: on every device the block of rows of the reference's result that the layout
  gives it.
-/
module

public import proofs.«01_k».proof.Proof.Sums
public import proofs.«01_k».proof.Proof.RefValue
public import Idealize.ShloMosaic.Lib.Layout

@[expose] public section

set_option maxRecDepth 16384

noncomputable section

namespace Cert.KernelIdeal.Ring

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

open Idealize.ShloMosaic.ValueIdx
open Cert.ReferenceIdeal.Line (real refOut refOut_apply one_ix)

variable (m : (ℓ : Loc nD τ sig) → Buf (Elt Ideal) ℓ)

/-! ## An entry of the kernel's result -/

theorem scl_eq (c : Dev nD) (j : S1.Idx) :
    scl m c = FloatOps.mulf (F := Ideal) (φ := .f32) (m ((c : Thread nD τ).loc main_arg2) j) (m ((c : Thread nD τ).loc main_arg3) j) := by
  unfold scl
  exact congrArg₂ (FloatOps.mulf (F := Ideal) (φ := .f32)) ((s0stg_eq m c _).trans (congrArg _ (one_ix _ j)))
    ((s1stg_eq m c _).trans (congrArg _ (one_ix _ j)))

/-- An entry of the result from the sum over all devices. -/
def entry (a b : EReal) (n : ℤ) : EReal :=
  FloatOps.maximumf (F := Ideal) (φ := .f32)
    (FloatOps.mulf (F := Ideal) (φ := .f32) (real n) (FloatOps.mulf (F := Ideal) (φ := .f32) a b))
    (Scalar.ofBits (F := Ideal) .f32 0x00000000#32)

theorem piece_apply (i : Fin 4) (c : Dev nD) (y : S256x512.Idx) (j : S1.Idx) :
    piece m i c y = entry (m ((c : Thread nD τ).loc main_arg2) j) (m ((c : Thread nD τ).loc main_arg3) j)
      (∑ d : Dev nD, part m d (rowIx c (y 0)) (colIx i (y 1))) := by
  rw [← total_toInt, entry, ← scl_eq m c j, piece]
  generalize addi (msg m i 14 (up i c)) (ownChunk m i c) = v
  generalize scl m c = s
  rfl

theorem col_within (x : S256x2048.Idx) : colIx (strm x) (within x 1) = x 1 := by
  refine Fin.ext ?_
  show outOff (strm x) 1 + (x 1).val % 512 = (x 1).val
  rw [(outOff_cols _).2]
  unfold strm
  rw [perm_perm]
  show 512 * ((x 1).val / 512) + (x 1).val % 512 = (x 1).val
  omega

theorem outAt_apply (c : Dev nD) (x : S256x2048.Idx) (j : S1.Idx) :
    outAt m c x = entry (m ((c : Thread nD τ).loc main_arg2) j) (m ((c : Thread nD τ).loc main_arg3) j)
      (∑ d : Dev nD, part m d (rowIx c (x 0)) (x 1)) := by
  refine (piece_apply m (strm x) c (within x) j).trans ?_
  rw [col_within]
  rfl

/-! ## The sum over all columns, device by device -/

theorem sum_cut (f : Fin 4096 → ℤ) : ∑ k : Fin 4096, f k = ∑ d : Dev nD, ∑ k : Fin 256, f (rowIx d k) := by
  rw [← Fintype.sum_prod_type' (fun (d : Dev nD) (k : Fin 256) => f (rowIx d k))]
  symm
  refine Fintype.sum_bijective (fun p : Dev nD × Fin 256 => rowIx p.1 p.2) ⟨fun p q h => ?_, fun k => ?_⟩ _ _ fun _ => rfl
  · have h' : 256 * p.1.val + p.2.val = 256 * q.1.val + q.2.val := congrArg Fin.val h
    have hp := p.2.isLt
    have hq := q.2.isLt
    exact Prod.ext (Fin.ext (by omega)) (Fin.ext (by omega))
  · have hk := k.isLt
    exact ⟨(⟨k.val / 256, by show k.val / 256 < 16; omega⟩, ⟨k.val % 256, by omega⟩), Fin.ext (by show 256 * (k.val / 256) + k.val % 256 = k.val; omega)⟩

/-- The kernel's result on a device is its block of rows of the reference's. -/
theorem outAt_block (X : ReferenceIdeal.S4096x4096.Idx → BitVec 8) (W : ReferenceIdeal.S4096x2048.Idx → BitVec 8) (a b : S1.Idx → EReal)
    (hX : ∀ c : Dev nD, m ((c : Thread nD τ).loc main_arg0) = Layout.block ⟨2, ![4096, 256]⟩ ⟨2, ![4096, 4096]⟩ 1 16 c X)
    (hW : ∀ c : Dev nD, m ((c : Thread nD τ).loc main_arg1) = Layout.block ⟨2, ![256, 2048]⟩ ⟨2, ![4096, 2048]⟩ 0 16 c W)
    (ha : ∀ c : Dev nD, m ((c : Thread nD τ).loc main_arg2) = a) (hb : ∀ c : Dev nD, m ((c : Thread nD τ).loc main_arg3) = b) (c : Dev nD) :
    outAt m c = Layout.block ⟨2, ![256, 2048]⟩ ⟨2, ![4096, 2048]⟩ 0 16 c (refOut (F := Ideal) X W a b) := by
  funext x
  have j : S1.Idx := Shape.Idx.first (numel1_S1.symm ▸ Nat.one_pos)
  have hr : (Layout.block ⟨2, ![256, 2048]⟩ ⟨2, ![4096, 2048]⟩ 0 16 c (refOut (F := Ideal) X W a b)) x
      = refOut (F := Ideal) X W a b (ix2 (rowIx c (x 0)) (x 1)) := by
    refine congrArg (refOut (F := Ideal) X W a b) (funext fun t => Fin.ext ?_)
    match t with
    | ⟨0, _⟩ => show c.val * 256 + (x 0).val = 256 * c.val + (x 0).val; omega
    | ⟨1, _⟩ => rfl
  refine (outAt_apply m c x j).trans (Eq.trans ?_ hr.symm)
  refine Eq.trans ?_ (refOut_apply X W a b j (rowIx c (x 0)) (x 1)).symm
  rw [ha, hb, sum_cut]
  refine congrArg (entry (a j) (b j)) (Finset.sum_congr rfl fun d _ => Finset.sum_congr rfl fun k _ => ?_)
  rw [hX, hW]
  refine congrArg₂ (· * ·) (congrArg (fun i => BitVec.toInt (n := 8) (X i)) ?_) (congrArg (fun i => BitVec.toInt (n := 8) (W i)) ?_)
  · funext t
    refine Fin.ext ?_
    match t with
    | ⟨0, _⟩ => rfl
    | ⟨1, _⟩ => show d.val * 256 + k.val = 256 * d.val + k.val; omega
  · funext t
    refine Fin.ext ?_
    match t with
    | ⟨0, _⟩ => show d.val * 256 + k.val = 256 * d.val + k.val; omega
    | ⟨1, _⟩ => rfl

end Cert.KernelIdeal.Ring

end
-- ==== Proof.lean ====
/- The claims about the ring kernel, its idealization and the reference: each program terminates with its arguments
   as they were and every semaphore counter at zero, and over the reals the kernel's result on every device is its
   block of the reference's. -/
module

public import proofs.«01_k».proof.Defs
public import proofs.«01_k».proof.Proof.Results
public import proofs.«01_k».proof.Proof.Float.Results
public import proofs.«01_k».proof.Proof.Reference
public import proofs.«01_k».proof.Proof.Values

@[expose] public section

noncomputable section

namespace Cert.Proof

open Idealize.ShloMosaic Idealize.SL.Sem

theorem kernel_quiescent : Cert.quiescent_Kernel := fun m ρ _ =>
  (θ_run Cert.Kernel.defs _ _).mono (fun _ h => ⟨fun c => (h.1 c).2, h.2⟩) (Cert.Kernel.Ring.run_out (F := Bits) m ρ)

theorem kernelIdeal_quiescent : Cert.quiescent_KernelIdeal := fun m ρ _ =>
  (θ_run Cert.KernelIdeal.defs _ _).mono (fun _ h => ⟨fun c => (h.1 c).2, h.2⟩) (Cert.KernelIdeal.Ring.run_out (F := Ideal) m ρ)

theorem referenceIdeal_quiescent : Cert.quiescent_ReferenceIdeal := fun m ρ _ =>
  (θ_run Cert.ReferenceIdeal.defs _ _).mono (fun _ h => ⟨fun c => (h.1 c).2, h.2⟩) (Cert.ReferenceIdeal.Line.run_line (F := Ideal) m ρ)

theorem kernelIdeal_algebraic : Cert.algebraic_KernelIdeal_ReferenceIdeal := fun m g m' g' _ h =>
  ⟨_, (θ_run Cert.KernelIdeal.defs _ _).mono
      (fun _ hr c => ⟨(hr.1 c).1.trans (Cert.KernelIdeal.Ring.outAt_block m _ _ _ _ (fun c => (h c).1) (fun c => (h c).2.1)
        (fun c => (h c).2.2.1) (fun c => (h c).2.2.2) c), (hr.1 c).2⟩)
      (Cert.KernelIdeal.Ring.run_out (F := Ideal) m g),
    (θ_run Cert.ReferenceIdeal.defs _ _).mono (fun _ hr => hr.1 0) (Cert.ReferenceIdeal.Line.run_line (F := Ideal) m' g')⟩

theorem claim : Cert.Claim := ⟨Cert.Kernel.Gen.facts, Cert.KernelIdeal.Gen.facts, Cert.ReferenceIdeal.Gen.facts,
  kernel_quiescent, kernelIdeal_quiescent, referenceIdeal_quiescent, trivial, kernelIdeal_algebraic⟩

end Cert.Proof

end
